-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S16x128x64x64 : Shape := ⟨4, ![16, 128, 64, 64]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S16x128x64x64 : S_.BroadcastsInDim S16x128x64x64 (![] : Fin 0 → Fin S16x128x64x64.rank)
  reducesTo_S16x128x64x64_S_d0_1_2_3 : S16x128x64x64.ReducesTo [0, 1, 2, 3] S_

variable [Facts]

def fn {F : FTy → Type} [FloatOps F] (main_arg0 : FVec F S2x128x512 .bf16) (main_arg1 : FVec F S512x512 .bf16) (main_arg2 : FVec F S16x128x64x64 .f32) (main_arg3 : FVec F S16x128x64x64 .f32) (main_arg4 : FVec F S512x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x512 .f32 := (extf .f32 · bitsLt_bf16_f32) main_arg1
  let main_v6 : FVec F S512x512 .f32 := Host.absf main_v5
  let main_cst_0 : FVec F S_ .f32 := constant S_ .f32 0x7F800000#32
  let main_v7 : FVec F S512x512 .f32 := broadcastInDim S512x512 ![] bcast_S_S512x512 main_cst_0
  let main_v8 : IVec S512x512 1 := cmpf .olt main_v6 main_v7
  let main_c_1 : IVec S_ 1 := constantI S_ 1 1#1
  let main_v9 : IVec S_ 1 := (fun x v => Host.reduce IntOp.andi x v reducesTo_S512x512_S_d0_1 h_S_) main_v8 main_c_1
  let main_v10 : IVec S_ 1 := andi main_v4 main_v9
  let main_v11 : FVec F S16x128x64x64 .f32 := Host.absf main_arg2
  let main_cst_2 : FVec F S_ .f32 := constant S_ .f32 0x7F800000#32
  let main_v12 : FVec F S16x128x64x64 .f32 := broadcastInDim S16x128x64x64 ![] bcast_S_S16x128x64x64 main_cst_2
  let main_v13 : IVec S16x128x64x64 1 := cmpf .olt main_v11 main_v12
  let main_c_3 : IVec S_ 1 := constantI S_ 1 1#1
  let main_v14 : IVec S_ 1 := (fun x v => Host.reduce IntOp.andi x v reducesTo_S16x128x64x64_S_d0_1_2_3 h_S_) main_v13 main_c_3
  let main_v15 : IVec S_ 1 := andi main_v10 main_v14
  main_v15
-- ==== Pre_finite_ReferenceIdeal.lean ====
abbrev S16x128x512 : Shape := ⟨3, ![16, 128, 512]⟩
abbrev S512x4096 : Shape := ⟨2, ![512, 4096]⟩
abbrev S16x128x64x64 : Shape := ⟨4, ![16, 128, 64, 64]⟩
abbrev S4096x512 : Shape := ⟨2, ![4096, 512]⟩
abbrev S_ : Shape := ⟨0, ![]⟩

class Facts : Prop where
  bitsLt_bf16_f32 : FTy.bits .bf16 < FTy.bits .f32
  bcast_S_S16x128x512 : S_.BroadcastsInDim S16x128x512 (![] : Fin 0 → Fin S16x128x512.rank)
  reducesTo_S16x128x512_S_d0_1_2 : S16x128x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S16x128x64x64 : S_.BroadcastsInDim S16x128x64x64 (![] : Fin 0 → Fin S16x128x64x64.rank)
  reducesTo_S16x128x64x64_S_d0_1_2_3 : S16x128x64x64.ReducesTo [0, 1, 2, 3] S_

variable [Facts]

def fn {F : FTy → Type} [FloatOps F] (main_arg0 : FVec F S16x128x512 .bf16) (main_arg1 : FVec F S512x4096 .bf16) (main_arg2 : FVec F S16x128x64x64 .f32) (main_arg3 : FVec F S16x128x64x64 .f32) (main_arg4 : FVec F S4096x512 .bf16) : IVec S_ 1 :=
  let main_v0 : FVec F S16x128x512 .f32 := (extf .f32 · bitsLt_bf16_f32) main_arg0
  let main_v1 : FVec F S16x128x512 .f32 := Host.absf main_v0
  let main_cst : FVec F S_ .f32 := constant S_ .f32 0x7F800000#32
  let main_v2 : FVec F S16x128x512 .f32 := broadcastInDim S16x128x512 ![] bcast_S_S16x128x512 main_cst
  let main_v3 : IVec S16x128x512 1 := cmpf .olt main_v1 main_v2
  let main_c : IVec S_ 1 := constantI S_ 1 1#1
  let main_v4 : IVec S_ 1 := (fun x v => Host.reduce IntOp.andi x v reducesTo_S16x128x512_S_d0_1_2 h_S_) main_v3 main_c
  let main_v5 : FVec F S512x4096 .f32 := (extf .f32 · bitsLt_bf16_f32) main_arg1
  let main_v6 : FVec F S512x4096 .f32 := Host.absf main_v5
  let main_cst_0 : FVec F S_ .f32 := constant S_ .f32 0x7F800000#32
  let main_v7 : FVec F S512x4096 .f32 := broadcastInDim S512x4096 ![] bcast_S_S512x4096 main_cst_0
  let main_v8 : IVec S512x4096 1 := cmpf .olt main_v6 main_v7
  let main_c_1 : IVec S_ 1 := constantI S_ 1 1#1
  let main_v9 : IVec S_ 1 := (fun x v => Host.reduce IntOp.andi x v reducesTo_S512x4096_S_d0_1 h_S_) main_v8 main_c_1
  let main_v10 : IVec S_ 1 := andi main_v4 main_v9
  let main_v11 : FVec F S16x128x64x64 .f32 := Host.absf main_arg2
  let main_cst_2 : FVec F S_ .f32 := constant S_ .f32 0x7F800000#32
  let main_v12 : FVec F S16x128x64x64 .f32 := broadcastInDim S16x128x64x64 ![] bcast_S_S16x128x64x64 main_cst_2
  let main_v13 : IVec S16x128x64x64 1 := cmpf .olt main_v11 main_v12
  let main_c_3 : IVec S_ 1 := constantI S_ 1 1#1
  let main_v14 : IVec S_ 1 := (fun x v => Host.reduce IntOp.andi x v reducesTo_S16x128x64x64_S_d0_1_2_3 h_S_) main_v13 main_c_3
  let main_v15 : IVec S_ 1 := andi main_v10 main_v14
  main_v15
-- ==== Kernel.lean ====
abbrev S2x128x512 : Shape := ⟨3, ![2, 128, 512]⟩
abbrev S512x512 : Shape := ⟨2, ![512, 512]⟩
abbrev S16x128x64x64 : Shape := ⟨4, ![16, 128, 64, 64]⟩
abbrev S16x128x512 : Shape := ⟨3, ![16, 128, 512]⟩
abbrev S8x16x128x64 : Shape := ⟨4, ![8, 16, 128, 64]⟩
abbrev S7x2x128x512 : Shape := ⟨4, ![7, 2, 128, 512]⟩
abbrev S16 : Shape := ⟨1, ![16]⟩
abbrev S7 : Shape := ⟨1, ![7]⟩
abbrev S_ : Shape := ⟨0, ![]⟩
abbrev S1 : Shape := ⟨1, ![1]⟩
abbrev S1x16x128x64 : Shape := ⟨4, ![1, 16, 128, 64]⟩
abbrev S16x128x64 : Shape := ⟨3, ![16, 128, 64]⟩
abbrev S16x128x1x64 : Shape := ⟨4, ![16, 128, 1, 64]⟩
abbrev S256x512 : Shape := ⟨2, ![256, 512]⟩
abbrev S1x128x64 : Shape := ⟨3, ![1, 128, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x512 : Shape := ⟨2, ![128, 512]⟩
abbrev S1x2x128x512 : Shape := ⟨4, ![1, 2, 128, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S16x128x64x64, .f32⟩
  | .hbm, ⟨3, _⟩ => ⟨S16x128x64x64, .f32⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x512, .f32⟩
  | .local _ .vmem, ⟨4, _⟩ => ⟨S16x128x512, .bf16⟩
  | .local _ .vmem, ⟨5, _⟩ => ⟨S8x16x128x64, .f32⟩
  | .local _ .vmem, ⟨6, _⟩ => ⟨S8x16x128x64, .f32⟩
  | .local _ .vmem, ⟨7, _⟩ => ⟨S2x128x512, .f32⟩
  | .local _ .vmem, ⟨8, _⟩ => ⟨S7x2x128x512, .bf16⟩
  | .local _ .vmem, ⟨9, _⟩ => ⟨S7x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_30 : BitVec 32) : Fin 4 → Nat :=
  let c0_i32_36 : BitVec 32 := 0#32
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_29 : BitVec 32 := 8#32
  let v32 : BitVec 32 := Scalar.muli v2 c8_i32_29
  let v33 : BitVec 32 := Scalar.addi v32 c0_i32_30
  let c0_i32_38 : BitVec 32 := 0#32
  ![0, 0, v33.toNat, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_167 : BitVec 32 := 2#32
  let v145 : BitVec 32 := Scalar.muli v2 c2_i32_167
  let v148 : Index := Scalar.indexCast v145
  let c0_170 : Index := 0#32
  let c0_171 : Index := 0#32
  ![v148.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_167 : BitVec 32 := 2#32
  let v145 : BitVec 32 := Scalar.muli v2 c2_i32_167
  let c0_i32_178 : BitVec 32 := 0#32
  let c0_i32_179 : BitVec 32 := 0#32
  ![v145.toNat, 0, 0]
def k0_dev8 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_172 : BitVec 32 := 1#32
  let v152 : BitVec 32 := Scalar.addi v2 c1_i32_172
  let c8_i32_173 : BitVec 32 := 8#32
  let v153 : BitVec 32 := Scalar.remsi v152 c8_i32_173
  let c1_i32_176 : BitVec 32 := 1#32
  let v154 : BitVec 32 := Scalar.muli v153 c1_i32_176
  let v155 : BitVec 32 := Scalar.addi c0_i32_177 v154
  v155.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_182 : BitVec 32 := 2#32
  let v162 : BitVec 32 := Scalar.addi v2 c2_i32_182
  let c8_i32_183 : BitVec 32 := 8#32
  let v163 : BitVec 32 := Scalar.remsi v162 c8_i32_183
  let c1_i32_186 : BitVec 32 := 1#32
  let v164 : BitVec 32 := Scalar.muli v163 c1_i32_186
  let v165 : BitVec 32 := Scalar.addi c0_i32_187 v164
  v165.toNat
def k0_dev10 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_192 : BitVec 32 := 3#32
  let v172 : BitVec 32 := Scalar.addi v2 c3_i32_192
  let c8_i32_193 : BitVec 32 := 8#32
  let v173 : BitVec 32 := Scalar.remsi v172 c8_i32_193
  let c1_i32_196 : BitVec 32 := 1#32
  let v174 : BitVec 32 := Scalar.muli v173 c1_i32_196
  let v175 : BitVec 32 := Scalar.addi c0_i32_197 v174
  v175.toNat
def k0_dev11 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_202 : BitVec 32 := 4#32
  let v182 : BitVec 32 := Scalar.addi v2 c4_i32_202
  let c8_i32_203 : BitVec 32 := 8#32
  let v183 : BitVec 32 := Scalar.remsi v182 c8_i32_203
  let c1_i32_206 : BitVec 32 := 1#32
  let v184 : BitVec 32 := Scalar.muli v183 c1_i32_206
  let v185 : BitVec 32 := Scalar.addi c0_i32_207 v184
  v185.toNat
def k0_dev12 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_212 : BitVec 32 := 5#32
  let v192 : BitVec 32 := Scalar.addi v2 c5_i32_212
  let c8_i32_213 : BitVec 32 := 8#32
  let v193 : BitVec 32 := Scalar.remsi v192 c8_i32_213
  let c1_i32_216 : BitVec 32 := 1#32
  let v194 : BitVec 32 := Scalar.muli v193 c1_i32_216
  let v195 : BitVec 32 := Scalar.addi c0_i32_217 v194
  v195.toNat
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_222 : BitVec 32 := 6#32
  let v202 : BitVec 32 := Scalar.addi v2 c6_i32_222
  let c8_i32_223 : BitVec 32 := 8#32
  let v203 : BitVec 32 := Scalar.remsi v202 c8_i32_223
  let c1_i32_226 : BitVec 32 := 1#32
  let v204 : BitVec 32 := Scalar.muli v203 c1_i32_226
  let v205 : BitVec 32 := Scalar.addi c0_i32_227 v204
  v205.toNat
def k0_dev14 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_232 : BitVec 32 := 7#32
  let v212 : BitVec 32 := Scalar.addi v2 c7_i32_232
  let c8_i32_233 : BitVec 32 := 8#32
  let v213 : BitVec 32 := Scalar.remsi v212 c8_i32_233
  let c1_i32_236 : BitVec 32 := 1#32
  let v214 : BitVec 32 := Scalar.muli v213 c1_i32_236
  let v215 : BitVec 32 := Scalar.addi c0_i32_237 v214
  v215.toNat
def k0_off4 (d0 : Dev nD) (c0_i32_379 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_378 : BitVec 32 := 2#32
  let v330 : BitVec 32 := Scalar.muli v2 c2_i32_378
  let v331 : BitVec 32 := Scalar.addi v330 c0_i32_379
  let v334 : Index := Scalar.indexCast v331
  let c0_384 : Index := 0#32
  let c0_385 : Index := 0#32
  ![v334.toNat, 0, 0]
def k0_off5 (d0 : Dev nD) (c1_i32_634 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v700 : BitVec 32 := Scalar.subi v2 c1_i32_634
  let c8_i32_635 : BitVec 32 := 8#32
  let v701 : BitVec 32 := Scalar.addi v700 c8_i32_635
  let c8_i32_636 : BitVec 32 := 8#32
  let v702 : BitVec 32 := Scalar.remsi v701 c8_i32_636
  let c2_i32_637 : BitVec 32 := 2#32
  let v703 : BitVec 32 := Scalar.muli v702 c2_i32_637
  let v704 : Index := Scalar.indexCast v703
  let c0_638 : Index := 0#32
  let c0_639 : Index := 0#32
  ![v704.toNat, 0, 0]
def k0_off6 (d0 : Dev nD) (c1_i32_634 : BitVec 32) (c0_i32_643 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v700 : BitVec 32 := Scalar.subi v2 c1_i32_634
  let c8_i32_635 : BitVec 32 := 8#32
  let v701 : BitVec 32 := Scalar.addi v700 c8_i32_635
  let c8_i32_636 : BitVec 32 := 8#32
  let v702 : BitVec 32 := Scalar.remsi v701 c8_i32_636
  let c2_i32_642 : BitVec 32 := 2#32
  let v711 : BitVec 32 := Scalar.muli v702 c2_i32_642
  let v712 : BitVec 32 := Scalar.addi v711 c0_i32_643
  let v715 : Index := Scalar.indexCast v712
  let c0_648 : Index := 0#32
  let c0_649 : Index := 0#32
  ![v715.toNat, 0, 0]
def k0_dev15 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_634 : BitVec 32 := 1#32
  let v700 : BitVec 32 := Scalar.subi v2 c1_i32_634
  let c8_i32_635 : BitVec 32 := 8#32
  let v701 : BitVec 32 := Scalar.addi v700 c8_i32_635
  let c8_i32_636 : BitVec 32 := 8#32
  let v702 : BitVec 32 := Scalar.remsi v701 c8_i32_636
  let c1_i32_895 : BitVec 32 := 1#32
  let v1076 : BitVec 32 := Scalar.muli v702 c1_i32_895
  let v1077 : BitVec 32 := Scalar.addi c0_i32_896 v1076
  v1077.toNat
def k0_dev16 (d0 : Dev nD) : Nat :=
  let c0_i32_1172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_911 : BitVec 32 := 2#32
  let v1092 : BitVec 32 := Scalar.subi v2 c2_i32_911
  let c8_i32_912 : BitVec 32 := 8#32
  let v1093 : BitVec 32 := Scalar.addi v1092 c8_i32_912
  let c8_i32_913 : BitVec 32 := 8#32
  let v1094 : BitVec 32 := Scalar.remsi v1093 c8_i32_913
  let c1_i32_1171 : BitVec 32 := 1#32
  let v1468 : BitVec 32 := Scalar.muli v1094 c1_i32_1171
  let v1469 : BitVec 32 := Scalar.addi c0_i32_1172 v1468
  v1469.toNat
def k0_dev17 (d0 : Dev nD) : Nat :=
  let c0_i32_1448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1187 : BitVec 32 := 3#32
  let v1484 : BitVec 32 := Scalar.subi v2 c3_i32_1187
  let c8_i32_1188 : BitVec 32 := 8#32
  let v1485 : BitVec 32 := Scalar.addi v1484 c8_i32_1188
  let c8_i32_1189 : BitVec 32 := 8#32
  let v1486 : BitVec 32 := Scalar.remsi v1485 c8_i32_1189
  let c1_i32_1447 : BitVec 32 := 1#32
  let v1860 : BitVec 32 := Scalar.muli v1486 c1_i32_1447
  let v1861 : BitVec 32 := Scalar.addi c0_i32_1448 v1860
  v1861.toNat
def k0_dev18 (d0 : Dev nD) : Nat :=
  let c0_i32_1724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1463 : BitVec 32 := 4#32
  let v1876 : BitVec 32 := Scalar.subi v2 c4_i32_1463
  let c8_i32_1464 : BitVec 32 := 8#32
  let v1877 : BitVec 32 := Scalar.addi v1876 c8_i32_1464
  let c8_i32_1465 : BitVec 32 := 8#32
  let v1878 : BitVec 32 := Scalar.remsi v1877 c8_i32_1465
  let c1_i32_1723 : BitVec 32 := 1#32
  let v2252 : BitVec 32 := Scalar.muli v1878 c1_i32_1723
  let v2253 : BitVec 32 := Scalar.addi c0_i32_1724 v2252
  v2253.toNat
def k0_dev19 (d0 : Dev nD) : Nat :=
  let c0_i32_2000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1739 : BitVec 32 := 5#32
  let v2268 : BitVec 32 := Scalar.subi v2 c5_i32_1739
  let c8_i32_1740 : BitVec 32 := 8#32
  let v2269 : BitVec 32 := Scalar.addi v2268 c8_i32_1740
  let c8_i32_1741 : BitVec 32 := 8#32
  let v2270 : BitVec 32 := Scalar.remsi v2269 c8_i32_1741
  let c1_i32_1999 : BitVec 32 := 1#32
  let v2644 : BitVec 32 := Scalar.muli v2270 c1_i32_1999
  let v2645 : BitVec 32 := Scalar.addi c0_i32_2000 v2644
  v2645.toNat
def k0_dev20 (d0 : Dev nD) : Nat :=
  let c0_i32_2276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2015 : BitVec 32 := 6#32
  let v2660 : BitVec 32 := Scalar.subi v2 c6_i32_2015
  let c8_i32_2016 : BitVec 32 := 8#32
  let v2661 : BitVec 32 := Scalar.addi v2660 c8_i32_2016
  let c8_i32_2017 : BitVec 32 := 8#32
  let v2662 : BitVec 32 := Scalar.remsi v2661 c8_i32_2017
  let c1_i32_2275 : BitVec 32 := 1#32
  let v3036 : BitVec 32 := Scalar.muli v2662 c1_i32_2275
  let v3037 : BitVec 32 := Scalar.addi c0_i32_2276 v3036
  v3037.toNat
def k0_dev21 (d0 : Dev nD) : Nat :=
  let c0_i32_2552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2291 : BitVec 32 := 7#32
  let v3052 : BitVec 32 := Scalar.subi v2 c7_i32_2291
  let c8_i32_2292 : BitVec 32 := 8#32
  let v3053 : BitVec 32 := Scalar.addi v3052 c8_i32_2292
  let c8_i32_2293 : BitVec 32 := 8#32
  let v3054 : BitVec 32 := Scalar.remsi v3053 c8_i32_2293
  let c1_i32_2551 : BitVec 32 := 1#32
  let v3428 : BitVec 32 := Scalar.muli v3054 c1_i32_2551
  let v3429 : BitVec 32 := Scalar.addi c0_i32_2552 v3428
  v3429.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x128x512 : Shape := ⟨3, ![16, 128, 512]⟩
abbrev S512x4096 : Shape := ⟨2, ![512, 4096]⟩
abbrev S16x128x64x64 : Shape := ⟨4, ![16, 128, 64, 64]⟩
abbrev S4096x512 : Shape := ⟨2, ![4096, 512]⟩
abbrev S16x128x4096 : Shape := ⟨3, ![16, 128, 4096]⟩
abbrev S16x64x128x128 : Shape := ⟨4, ![16, 64, 128, 128]⟩
abbrev S_ : Shape := ⟨0, ![]⟩
abbrev S16x64x128 : Shape := ⟨3, ![16, 64, 128]⟩
abbrev S16x64x128x1 : Shape := ⟨4, ![16, 64, 128, 1]⟩
abbrev S16x64x64x128 : Shape := ⟨4, ![16, 64, 64, 128]⟩
abbrev S16x128x64x1 : Shape := ⟨4, ![16, 128, 64, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x128x512, .bf16⟩
  | .hbm, ⟨1, _⟩ => ⟨S512x4096, .bf16⟩
  | .hbm, ⟨2, _⟩ => ⟨S16x128x64x64, .f32⟩
  | .hbm, ⟨3, _⟩ => ⟨S16x128x64x64, .f32⟩
  | .hbm, ⟨4, _⟩ => ⟨S4096x512, .bf16⟩
  | .hbm, ⟨5, _⟩ => ⟨S16x128x512, .f32⟩
  | .hbm, ⟨6, _⟩ => ⟨S512x4096, .f32⟩
  | .hbm, ⟨7, _⟩ => ⟨S16x128x4096, .f32⟩
  | .hbm, ⟨8, _⟩ => ⟨S16x128x64x64, .f32⟩
  | .hbm, ⟨9, _⟩ => ⟨S16x64x128x128, .f32⟩
  | .hbm, ⟨10, _⟩ => ⟨S_, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128, .f32⟩
  | .hbm, ⟨15, _⟩ => ⟨S16x64x128x1, .f32⟩
  | .hbm, ⟨16, _⟩ => ⟨S16x64x128x128, .f32⟩
  | .hbm, ⟨17, _⟩ => ⟨S16x64x128x128, .f32⟩
  | .hbm, ⟨18, _⟩ => ⟨S16x64x128x128, .f32⟩
  | .hbm, ⟨19, _⟩ => ⟨S_, .f32⟩
  | .hbm, ⟨20, _⟩ => ⟨S16x64x128, .f32⟩
  | .hbm, ⟨21, _⟩ => ⟨S16x64x128x1, .f32⟩
  | .hbm, ⟨22, _⟩ => ⟨S16x64x64x128, .f32⟩
  | .hbm, ⟨23, _⟩ => ⟨S16x128x64x64, .f32⟩
  | .hbm, ⟨24, _⟩ => ⟨S16x128x64x1, .f32⟩
  | .hbm, ⟨25, _⟩ => ⟨S16x128x64x64, .f32⟩
  | .hbm, ⟨26, _⟩ => ⟨S16x128x64x64, .f32⟩
  | .hbm, ⟨27, _⟩ => ⟨S16x128x4096, .f32⟩
  | .hbm, ⟨28, _⟩ => ⟨S4096x512, .f32⟩
  | .hbm, ⟨29, _⟩ => ⟨S16x128x512, .f32⟩
  | _, _ => ⟨S16x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.K.BodyEq.lean ====
/- The printed body is the structured program. -/
module

public import proofs.«01_k».proof.Proof.K.Prog
public import proofs.«01_k».proof.Proof.Gen.Kernel.Skeleton

@[expose] public section

noncomputable section

namespace Cert.Kernel.My

open Cert.Kernel Cert.Kernel.Gen
open Idealize.ShloMosaic Idealize.ShloMosaic.TcCoe
open Idealize.SL Idealize.SL.Sem

variable {F : FTy → Type} [FloatOps F]

set_option maxRecDepth 65536 in
set_option maxHeartbeats 0 in
/-- The printed body is the structured one. -/
theorem body_eq : cc0_body (F := F) xM (Memref.isWhole_whole _) wqM (Memref.isWhole_whole _) woM (Memref.isWhole_whole _) kH (Memref.isWhole_whole _) vH (Memref.isWhole_whole _)
    outM (Memref.isWhole_whole _) xgM (Memref.isWhole_whole _) kM (Memref.isWhole_whole _) vM (Memref.isWhole_whole _) accM (Memref.isWhole_whole _)
    sbM (Memref.isWhole_whole _) rbM (Memref.isWhole_whole _) cc0_scratch6 cc0_scratch7 cc0_scratch8 cc0_scratch9 cc0_scratch10 = body (F := F) := by
  rw [cc0_body_eq_skeleton]
  rfl

end Cert.Kernel.My

end
-- ==== Proof.KI.Prog.lean ====
/- The kernel's body as a structured program: the same operations, written once per kind of step and
   indexed by the peer offset, the head and the row, and equal to the printed body by unfolding. -/
module

public import proofs.«01_k».proof.Proof.Gen.KernelIdeal

@[expose] public section

noncomputable section

namespace Cert.KernelIdeal.My

open Cert.KernelIdeal Cert.KernelIdeal.Gen
open Idealize.ShloMosaic Idealize.ShloMosaic.TcCoe
open Idealize.SL Idealize.SL.Sem

variable {F : FTy → Type} [FloatOps F]

/-! ## The buffers -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev outM : Memref sig .tc .vmem S2x128x512 .f32 := Memref.whole cc0_stg3_0
abbrev kH : Memref sig .tc .hbm S16x128x64x64 .f32 := Memref.whole main_arg2
abbrev vH : Memref sig .tc .hbm S16x128x64x64 .f32 := Memref.whole main_arg3
abbrev xgM : Memref sig .tc .vmem S16x128x512 .bf16 := Memref.whole cc0_scratch0
abbrev kM : Memref sig .tc .vmem S8x16x128x64 .f32 := Memref.whole cc0_scratch1
abbrev vM : Memref sig .tc .vmem S8x16x128x64 .f32 := Memref.whole cc0_scratch2
abbrev accM : Memref sig .tc .vmem S2x128x512 .f32 := Memref.whole cc0_scratch3
abbrev sbM : Memref sig .tc .vmem S7x2x128x512 .bf16 := Memref.whole cc0_scratch4
abbrev rbM : Memref sig .tc .vmem S7x2x128x512 .bf16 := Memref.whole cc0_scratch5

/-! ## Bounds of the slices, for every index at once -/

theorem inb_kv : ∀ h : Fin 8, ∀ a, (![h.val, 0, 0, 0] : Fin 4 → Nat) a + S1x16x128x64.size a ≤ S8x16x128x64.size a := by decide +kernel
theorem inb_buf : ∀ j : Fin 7, ∀ a, (![j.val, 0, 0, 0] : Fin 4 → Nat) a + S1x2x128x512.size a ≤ S7x2x128x512.size a := by decide +kernel
theorem inb_sem16 : ∀ i : Fin 16, ∀ a, (![i.val] : Fin 1 → Nat) a + S1.size a ≤ S16.size a := by decide +kernel
theorem inb_sem7 : ∀ i : Fin 7, ∀ a, (![i.val] : Fin 1 → Nat) a + S1.size a ≤ S7.size a := by decide +kernel
theorem inb_head : ∀ (bl : Fin 2) (h : Fin 8), S256x512.Slices ![128 * bl.val, 64 * h.val] S128x64 := by decide +kernel
theorem packed_buf : ∀ j : Fin 7, (Rect.unit (s := S7x2x128x512) ![j.val, 0, 0, 0] S1x2x128x512.size (inb_buf j)).PackedRows (EltTy.packing .bf16) := by decide +kernel
theorem words_buf : ∀ j : Fin 7, (Rect.unit (s := S7x2x128x512) ![j.val, 0, 0, 0] S1x2x128x512.size (inb_buf j)).WholeWords (EltTy.packing .bf16) := by decide +kernel

/-! ## The peers -/

/-- The device the barrier's signal number `j` goes to. -/
def barDev : Fin 7 → Dev nD → Nat := ![k0_dev1, k0_dev2, k0_dev3, k0_dev4, k0_dev5, k0_dev6, k0_dev7]
/-- The device the gathering copy number `j` goes to. -/
def agDev : Fin 7 → Dev nD → Nat := ![k0_dev8, k0_dev9, k0_dev10, k0_dev11, k0_dev12, k0_dev13, k0_dev14]
/-- The device the scattering copy number `j` goes to. -/
def rsDev : Fin 7 → Dev nD → Nat := ![k0_dev15, k0_dev16, k0_dev17, k0_dev18, k0_dev19, k0_dev20, k0_dev21]
theorem barDev_lt : ∀ j d, barDev j d < nD := by decide +kernel
theorem agDev_lt : ∀ j d, agDev j d < nD := by decide +kernel
theorem rsDev_lt : ∀ j d, rsDev j d < nD := by decide +kernel

/-! ## Views -/

/-- Head `h`'s plane of a K or V buffer in on-chip memory. -/
abbrev kvSl (M : Memref sig .tc .vmem S8x16x128x64 .f32) (h : Fin 8) : Memref sig .tc .vmem S16x128x64 .f32 :=
  (M.slice (Rect.unit (s := S8x16x128x64) ![h.val, 0, 0, 0] S1x16x128x64.size (inb_kv h)) (fun _ => rfl)).squeeze S16x128x64 squeezes_S1x16x128x64_S16x128x64
/-- The head of K or V, in the device's memory, that goes to plane `h`. -/
abbrev kvSrc (M : Memref sig .tc .hbm S16x128x64x64 .f32) (d : Dev nD) (h : Fin 8) : Memref sig .tc .hbm S16x128x64 .f32 :=
  (M.slice (Rect.unit (s := S16x128x64x64) (k0_off1 d (BitVec.ofNat 32 h.val)) S16x128x1x64.size (k0_off1_inb d h)) (fun _ => rfl)).squeeze S16x128x64 squeezes_S16x128x1x64_S16x128x64
/-- Semaphore `i` of the sixteen. -/
abbrev sem16 (i : Fin 16) : DmaSem sig :=
  ((cc0_scratch6.slice (Rect.unit (s := S16) ![i.val] S1.size (inb_sem16 i))).squeeze S_ squeezes_S1_S_).sem
/-- Semaphore `j` of an array of seven. -/
abbrev sem7 (A : DmaSems sig S7) (j : Fin 7) : DmaSem sig :=
  ((A.slice (Rect.unit (s := S7) ![j.val] S1.size (inb_sem7 j))).squeeze S_ squeezes_S1_S_).sem
abbrev agS : Fin 7 → DmaSem sig := sem7 cc0_scratch7
abbrev agR : Fin 7 → DmaSem sig := sem7 cc0_scratch8
abbrev rsS : Fin 7 → DmaSem sig := sem7 cc0_scratch9
abbrev rsR : Fin 7 → DmaSem sig := sem7 cc0_scratch10
/-- The device's own slot of the gathered input. -/
abbrev xgOwn (d : Dev nD) : Memref sig .tc .vmem S2x128x512 .bf16 :=
  xgM.slice (Rect.unit (s := S16x128x512) (k0_off3 d) S2x128x512.size (k0_off3_inb d)) (fun _ => rfl)
/-- Slot `j` of a staging buffer of seven. -/
abbrev bufSl (M : Memref sig .tc .vmem S7x2x128x512 .bf16) (j : Fin 7) : Memref sig .tc .vmem S2x128x512 .bf16 :=
  (M.slice (Rect.unit (s := S7x2x128x512) ![j.val, 0, 0, 0] S1x2x128x512.size (inb_buf j)) (fun _ => rfl)).squeeze S2x128x512 squeezes_S1x2x128x512_S2x128x512
/-- The barrier semaphore. -/
abbrev barSem : Sem sig := (SemArray.scalar (sig.barrier 0 rfl) : Sems sig S_).sem

/-! ## Pure values -/

/-- The scaled queries of a slot. -/
def qVal (wq : Vec F S512x512 .bf16) (xs : Vec F S2x128x512 .bf16) : FVec F S256x512 .bf16 :=
  truncf .bf16 (mulf (matmul dot_S256x512_S512x512_S256x512_1_0_0_1_n_n none (shapeCast S256x512 xs shapeCasts_S2x128x512_S256x512)
    (shapeCast S512x512 wq shapeCasts_S512x512_S512x512) (constant S256x512 .f32 0x00000000#32)) (broadcast S256x512 (Scalar.ofBits .f32 0x3E000000#32))) bitsLt_bf16_f32

/-- One head's attention on one row, from its K and V planes' rows. -/
def headVal (q : FVec F S256x512 .bf16) (bl : Fin 2) (h : Fin 8) (k v : Vec F S1x128x64 .f32) : FVec F S128x64 .bf16 :=
  have p : FVec F S128x128 .f32 := exp (matmul dot_S128x64_S128x64_S128x128_1_1_0_0_n_n none
    (extractStridedSlice S128x64 ![128 * bl.val, 64 * h.val] q (inb_head bl h))
    (truncf .bf16 (shapeCast S128x64 k shapeCasts_S1x128x64_S128x64) bitsLt_bf16_f32) (constant S128x128 .f32 0x00000000#32))
  truncf .bf16 (divf (matmul dot_S128x128_S128x64_S128x64_1_0_0_1_n_n none (truncf .bf16 p bitsLt_bf16_f32)
      (truncf .bf16 (shapeCast S128x64 v shapeCasts_S1x128x64_S128x64) bitsLt_bf16_f32) (constant S128x64 .f32 0x00000000#32))
    (broadcastTo S128x64 (shapeCast S128x1 (multiReduction .add [1] S128 p 0x00000000#32 reduces_S128x128_S128 (.inl rfl) rfl) shapeCasts_S128_S128x1) broadcasts_S128x1_S128x64)) bitsLt_bf16_f32

/-- The eight heads of a row side by side. -/
def rowVal (o : Fin 8 → FVec F S128x64 .bf16) : FVec F S128x512 .bf16 :=
  concatenate S128x512 1 [⟨S128x64, o 0⟩, ⟨S128x64, o 1⟩, ⟨S128x64, o 2⟩, ⟨S128x64, o 3⟩, ⟨S128x64, o 4⟩, ⟨S128x64, o 5⟩, ⟨S128x64, o 6⟩, ⟨S128x64, o 7⟩]
    concatenates_S128x64_S128x64_S128x64_S128x64_S128x64_S128x64_S128x64_S128x64_S128x512_d1

/-- The two rows through the output projection. -/
def outVal (wo : Vec F S512x512 .bf16) (r0 r1 : FVec F S128x512 .bf16) : FVec F S256x512 .f32 :=
  matmul dot_S256x512_S512x512_S256x512_1_0_0_1_n_n none
    (concatenate S256x512 0 [⟨S128x512, r0⟩, ⟨S128x512, r1⟩] concatenates_S128x512_S128x512_S256x512_d0)
    (shapeCast S512x512 wo shapeCasts_S512x512_S512x512) (constant S256x512 .f32 0x00000000#32)

/-- What is stored as the device's own partial result. -/
def accVal (z : FVec F S256x512 .f32) : FVec F S2x128x512 .f32 :=
  shapeCast S2x128x512 (shapeCast S2x128x512 z shapeCasts_S256x512_S2x128x512) shapeCasts_S2x128x512_S2x128x512
/-- What is stored to be sent. -/
def sendVal (z : FVec F S256x512 .f32) : FVec F S1x2x128x512 .bf16 :=
  shapeCast S1x2x128x512 (shapeCast S2x128x512 (truncf .bf16 z bitsLt_bf16_f32) shapeCasts_S256x512_S2x128x512) shapeCasts_S2x128x512_S1x2x128x512
/-- What is stored as the gathered input's own slot. -/
def ownVal (x : Vec F S2x128x512 .bf16) : FVec F S2x128x512 .bf16 :=
  shapeCast S2x128x512 (shapeCast S2x128x512 x shapeCasts_S2x128x512_S2x128x512) shapeCasts_S2x128x512_S2x128x512
/-- The running sum with one received block added. -/
def addVal (a : Vec F S2x128x512 .f32) (r : Vec F S1x2x128x512 .bf16) : FVec F S2x128x512 .f32 :=
  addf a (extf .f32 (shapeCast S2x128x512 r shapeCasts_S1x2x128x512_S2x128x512) bitsLt_bf16_f32)

/-! ## The program -/

abbrev PR (F : FTy → Type) [FloatOps F] (α : Type) := Prog (TpuEff nD τ sig (Elt F) Λ₀ .tc) α

def sigStep (d : Dev nD) (j : Fin 7) : PR F PUnit := semSignalWord (⟨barDev j d, barDev_lt j d⟩ : Dev nD) barSem 1#32
def kCopy (d : Dev nD) (h : Fin 8) : PR F PUnit :=
  Prog.lift (.enqueueDma (kvSrc kH d h) (.here (kvSl kM h)) (.dma (sem16 ⟨h.val, by omega⟩)) ((View.wordExact_bits rfl).reshape _ _) ((View.wordExact_bits rfl).reshape _ _) ⟨Or.inl rfl, trivial⟩)
def vCopy (d : Dev nD) (h : Fin 8) : PR F PUnit :=
  Prog.lift (.enqueueDma (kvSrc vH d h) (.here (kvSl vM h)) (.dma (sem16 ⟨8 + h.val, by omega⟩)) ((View.wordExact_bits rfl).reshape _ _) ((View.wordExact_bits rfl).reshape _ _) ⟨Or.inl rfl, trivial⟩)
def kWait (d : Dev nD) (h : Fin 8) : PR F PUnit :=
  Prog.lift (.waitDma2 (sem16 ⟨h.val, by omega⟩) (kvSrc kH d h) (kvSl kM h) ((View.wordExact_bits rfl).reshape _ _) ((View.wordExact_bits rfl).reshape _ _))
def vWait (d : Dev nD) (h : Fin 8) : PR F PUnit :=
  Prog.lift (.waitDma2 (sem16 ⟨8 + h.val, by omega⟩) (kvSrc vH d h) (kvSl vM h) ((View.wordExact_bits rfl).reshape _ _) ((View.wordExact_bits rfl).reshape _ _))

theorem hxg : xgM.IsWhole := Memref.isWhole_whole _
theorem hsb : sbM.IsWhole := Memref.isWhole_whole _
theorem hrb : rbM.IsWhole := Memref.isWhole_whole _

def agSend (d : Dev nD) (j : Fin 7) : PR F PUnit :=
  Prog.lift (.enqueueDma (xgOwn d) (.remote (Dev.tc (⟨agDev j d, agDev_lt j d⟩ : Dev nD)) (xgOwn d) (.dma (agS j))) (.dma (agR j))
    (hxg.wordExact_slice rfl _ (k0_off3_wordsbf16 d)) (hxg.wordExact_slice rfl _ (k0_off3_wordsbf16 d)) ⟨⟨rfl, Or.inl rfl⟩, trivial⟩)
def agWait (d : Dev nD) (s : DmaSem sig) : PR F PUnit :=
  Prog.lift (.waitDma2 s (xgOwn d) (xgOwn d) (hxg.wordExact_slice rfl _ (k0_off3_wordsbf16 d)) (hxg.wordExact_slice rfl _ (k0_off3_wordsbf16 d)))
def rsSend (d : Dev nD) (j : Fin 7) : PR F PUnit :=
  Prog.lift (.enqueueDma (bufSl sbM j) (.remote (Dev.tc (⟨rsDev j d, rsDev_lt j d⟩ : Dev nD)) (bufSl rbM j) (.dma (rsS j))) (.dma (rsR j))
    ((hsb.wordExact_slice rfl _ (words_buf j)).reshape _ _) ((hrb.wordExact_slice rfl _ (words_buf j)).reshape _ _) ⟨⟨rfl, Or.inl rfl⟩, trivial⟩)
def rsWaitR (j : Fin 7) : PR F PUnit :=
  Prog.lift (.waitDma2 (rsR j) (bufSl sbM j) (bufSl rbM j) ((hsb.wordExact_slice rfl _ (words_buf j)).reshape _ _) ((hrb.wordExact_slice rfl _ (words_buf j)).reshape _ _))
def rsWaitS (j : Fin 7) : PR F PUnit :=
  Prog.lift (.waitDma2 (rsS j) (bufSl rbM j) (bufSl sbM j) ((hrb.wordExact_slice rfl _ (words_buf j)).reshape _ _) ((hsb.wordExact_slice rfl _ (words_buf j)).reshape _ _))

def loadX : PR F (Vec F S2x128x512 .bf16) :=
  Prog.lift (.load xM (Rect.unit (s := S2x128x512) ![0, 0, 0] S2x128x512.size inb_S2x128x512_S2x128x512_0_0_0).toLoadRect (View.loadsAt_vmem h_S2x128x512))
def loadW (M : Memref sig .tc .vmem S512x512 .bf16) : PR F (Vec F S512x512 .bf16) :=
  Prog.lift (.load M (Rect.unit (s := S512x512) ![0, 0] S512x512.size inb_S512x512_S512x512_0_0).toLoadRect (View.loadsAt_vmem h_S512x512))
def loadXg (off : Fin 3 → Nat) (h : ∀ a, off a + S2x128x512.size a ≤ S16x128x512.size a) : PR F (Vec F S2x128x512 .bf16) :=
  Prog.lift (.load xgM (Rect.unit (s := S16x128x512) off S2x128x512.size h).toLoadRect (View.loadsAt_vmem h_S2x128x512))
def storeXg (d : Dev nD) (x : Vec F S2x128x512 .bf16) : PR F PUnit :=
  Prog.lift (.store xgM (Rect.unit (s := S16x128x512) (k0_off2 d) S2x128x512.size (k0_off2_inb d)) (ownVal x) Finset.univ (View.stores_vmem h_S2x128x512 (hxg.storeExact_slice rfl _ (k0_off2_packedbf16 d)) (fun _ => rfl)) (.inl rfl))
def loadF (M : Memref sig .tc .vmem S2x128x512 .f32) : PR F (Vec F S2x128x512 .f32) :=
  Prog.lift (.load M (Rect.unit (s := S2x128x512) ![0, 0, 0] S2x128x512.size inb_S2x128x512_S2x128x512_0_0_0).toLoadRect (View.loadsAt_vmem h_S2x128x512))
def storeF (M : Memref sig .tc .vmem S2x128x512 .f32) (v : FVec F S2x128x512 .f32) : PR F PUnit :=
  Prog.lift (.store M (Rect.unit (s := S2x128x512) ![0, 0, 0] S2x128x512.size inb_S2x128x512_S2x128x512_0_0_0) v Finset.univ (View.stores_vmem_bits_univ h_S2x128x512 rfl) (.inl rfl))
def loadBuf (M : Memref sig .tc .vmem S7x2x128x512 .bf16) (j : Fin 7) : PR F (Vec F S1x2x128x512 .bf16) :=
  Prog.lift (.load M (Rect.unit (s := S7x2x128x512) ![j.val, 0, 0, 0] S1x2x128x512.size (inb_buf j)).toLoadRect (View.loadsAt_vmem h_S1x2x128x512))
def storeSb (j : Fin 7) (v : FVec F S1x2x128x512 .bf16) : PR F PUnit :=
  Prog.lift (.store sbM (Rect.unit (s := S7x2x128x512) ![j.val, 0, 0, 0] S1x2x128x512.size (inb_buf j)) v Finset.univ
    (View.stores_vmem h_S1x2x128x512 (hsb.storeExact_slice rfl _ (packed_buf j)) (fun _ => rfl)) (.inl rfl))

/-- A slot's row of a head's plane. -/
def loadKv (M : Memref sig .tc .vmem S8x16x128x64 .f32) (h : Fin 8) (off : Fin 3 → Nat) (ho : ∀ a, off a + S1x128x64.size a ≤ S16x128x64.size a) :
    PR F (Vec F S1x128x64 .f32) :=
  Prog.lift (.load (kvSl M h) (Rect.unit (s := S16x128x64) off S1x128x64.size ho).toLoadRect (View.loadsAt_vmem h_S1x128x64))

/-- One head on one row. -/
def headProg (q : FVec F S256x512 .bf16) (off : Fin 3 → Nat) (ho : ∀ a, off a + S1x128x64.size a ≤ S16x128x64.size a) (bl : Fin 2) (h : Fin 8) :
    PR F (FVec F S128x64 .bf16) := do
  let k ← loadKv kM h off ho
  let v ← loadKv vM h off ho
  pure (headVal q bl h k v)

/-- One row: the eight heads, then side by side. -/
def rowProg (q : FVec F S256x512 .bf16) (off : Fin 3 → Nat) (ho : ∀ a, off a + S1x128x64.size a ≤ S16x128x64.size a) (bl : Fin 2) :
    PR F (FVec F S128x512 .bf16) := do
  let o0 ← headProg q off ho bl 0
  let o1 ← headProg q off ho bl 1
  let o2 ← headProg q off ho bl 2
  let o3 ← headProg q off ho bl 3
  let o4 ← headProg q off ho bl 4
  let o5 ← headProg q off ho bl 5
  let o6 ← headProg q off ho bl 6
  let o7 ← headProg q off ho bl 7
  pure (rowVal ![o0, o1, o2, o3, o4, o5, o6, o7])

/-- One slot of two rows: queries, attention, output projection. -/
def slotProg (wq wo : Vec F S512x512 .bf16) (offx : Fin 3 → Nat) (hx : ∀ a, offx a + S2x128x512.size a ≤ S16x128x512.size a)
    (off : Fin 2 → Fin 3 → Nat) (ho : ∀ bl a, off bl a + S1x128x64.size a ≤ S16x128x64.size a) : PR F (FVec F S256x512 .f32) := do
  let xs ← loadXg offx hx
  let r0 ← rowProg (qVal wq xs) (off 0) (ho 0) 0
  let r1 ← rowProg (qVal wq xs) (off 1) (ho 1) 1
  pure (outVal wo r0 r1)

/-- Peer `j`'s slot: its input has arrived, its partial result is computed, stored and sent back. -/
def peerStep (d : Dev nD) (wq wo : Vec F S512x512 .bf16) (j : Fin 7) : PR F PUnit := do
  agWait d (agR j)
  let z ← slotProg wq wo (k0_off5 d (BitVec.ofNat 32 (1 + j.val))) (k0_off5_inb d j)
    (fun bl => k0_off6 d (BitVec.ofNat 32 (1 + j.val)) (BitVec.ofNat 32 bl.val)) (k0_off6_inb d j)
  let _ ← loadBuf sbM j
  storeSb j (sendVal z)
  rsSend d j

/-- One received block. -/
def recvStep (a : Vec F S2x128x512 .f32) (j : Fin 7) : PR F (FVec F S2x128x512 .f32) := do
  rsWaitR j
  let r ← loadBuf rbM j
  pure (addVal a r)

/-- `f` at each of seven, in order. -/
def each7 (f : Fin 7 → PR F PUnit) : PR F PUnit := do
  f 0; f 1; f 2; f 3; f 4; f 5; f 6
/-- `f` at each of eight, in order. -/
def each8 (f : Fin 8 → PR F PUnit) : PR F PUnit := do
  f 0; f 1; f 2; f 3; f 4; f 5; f 6; f 7

/-- The body. -/
def body : PR F PUnit := do
  let d ← Prog.lift .deviceId
  each7 (sigStep d)
  semWaitWord barSem 7#32
  each8 (fun h => do kCopy d h; vCopy d h)
  let x ← loadX
  let _ ← loadXg (k0_off2 d) (k0_off2_inb d)
  storeXg d x
  each7 (agSend d)
  each8 (fun h => do kWait d h; vWait d h)
  let wq ← loadW wqM
  let wo ← loadW woM
  let z ← slotProg wq wo (k0_off2 d) (k0_off2_inb d) (fun bl => k0_off4 d (BitVec.ofNat 32 bl.val)) (k0_off4_inb d)
  let _ ← loadF accM
  storeF accM (accVal z)
  each7 (peerStep d wq wo)
  let a ← loadF accM
  let a0 ← recvStep a 0
  let a1 ← recvStep a0 1
  let a2 ← recvStep a1 2
  let a3 ← recvStep a2 3
  let a4 ← recvStep a3 4
  let a5 ← recvStep a4 5
  let a6 ← recvStep a5 6
  let _ ← loadF outM
  storeF outM a6
  each7 (fun j => agWait d (agS j))
  each7 rsWaitS

end Cert.KernelIdeal.My

end
-- ==== Proof.KI.Geom.lean ====
/- Where the kernel's views lie in their buffers, and what they read: the eight slots of the gathered input,
   the seven slots of the exchange buffers, the eight planes of the K and V buffers; and the ring of peers. -/
module

public import proofs.«01_k».proof.Proof.KI.Prog
public import Idealize.ShloMosaic.Lib.Ring
public import Idealize.ShloMosaic.Lib.ValueLayout

@[expose] public section

noncomputable section

namespace Cert.KernelIdeal.My

open Cert.KernelIdeal Cert.KernelIdeal.Gen
open Idealize.ShloMosaic Idealize.ShloMosaic.TcCoe
open Idealize.SL Idealize.SL.Sem
open Idealize.ShloMosaic.ValueIdx (ix2 ix3 ix4)

variable {F : FTy → Type} [FloatOps F]

/-! ## The peers around the mesh -/

/-- The device `j + 1` after `c`. -/
def up (c : Dev nD) (j : Fin 7) : Dev nD := ⟨(c.val + (1 + j.val)) % 8, Nat.mod_lt _ (by decide)⟩
/-- The device `j + 1` before `c`. -/
def dn (c : Dev nD) (j : Fin 7) : Dev nD := ⟨(c.val + (7 - j.val)) % 8, Nat.mod_lt _ (by decide)⟩

theorem dn_up : ∀ (c : Dev nD) (j : Fin 7), dn (up c j) j = c := by decide +kernel
theorem up_dn : ∀ (c : Dev nD) (j : Fin 7), up (dn c j) j = c := by decide +kernel
theorem dn_rev : ∀ (c : Dev nD) (j : Fin 7), dn c (Fin.rev j) = up c j := by decide +kernel
theorem up_rev : ∀ (c : Dev nD) (j : Fin 7), up c (Fin.rev j) = dn c j := by decide +kernel
theorem up_inj : ∀ (c : Dev nD), Function.Injective (up c) := by decide +kernel
theorem dn_inj : ∀ (c : Dev nD), Function.Injective (dn c) := by decide +kernel
theorem erase_up : ∀ (c : Dev nD), Finset.univ.erase c = Finset.univ.map ⟨up c, up_inj c⟩ := by decide +kernel
theorem erase_dn : ∀ (c : Dev nD), Finset.univ.erase c = Finset.univ.map ⟨dn c, dn_inj c⟩ := by decide +kernel
/-- The rotation by `j + 1`. -/
def rot (j : Fin 7) : Dev nD ≃ Dev nD := ⟨fun c => up c j, fun c => dn c j, fun c => dn_up c j, fun c => up_dn c j⟩

theorem bar_dev : ∀ (j : Fin 7) (d : Dev nD), (⟨barDev j d, barDev_lt j d⟩ : Dev nD) = up d j := by decide +kernel
theorem ag_dev : ∀ (j : Fin 7) (d : Dev nD), (⟨agDev j d, agDev_lt j d⟩ : Dev nD) = up d j := by decide +kernel
theorem rs_dev : ∀ (j : Fin 7) (d : Dev nD), (⟨rsDev j d, rsDev_lt j d⟩ : Dev nD) = dn d j := by decide +kernel

/-! ## Slots of the gathered input -/

/-- The elements of slot `s` of the gathered input, of slot `j` of an exchange buffer, of plane `h` of K or V. -/
abbrev xgSet (s : Dev nD) : Finset S16x128x512.Idx := (xgOwn s).view.set
abbrev sbSet (j : Fin 7) : Finset S7x2x128x512.Idx := (bufSl sbM j).view.set
abbrev rbSet (j : Fin 7) : Finset S7x2x128x512.Idx := (bufSl rbM j).view.set
abbrev kSet (h : Fin 8) : Finset S8x16x128x64.Idx := (kvSl kM h).view.set
abbrev vSet (h : Fin 8) : Finset S8x16x128x64.Idx := (kvSl vM h).view.set

theorem xg_set (s : Dev nD) : (xgOwn s).view.set = (Rect.unit (s := S16x128x512) (k0_off3 s) S2x128x512.size (k0_off3_inb s)).set :=
  View.set_slice_whole cc0_scratch0 _
theorem off3_zero : ∀ (s : Dev nD), k0_off3 s 0 = 2 * s.val := by decide +kernel
theorem off3_rest : ∀ (s : Dev nD) (a : Fin 3), a ≠ 0 → k0_off3 s a = 0 := by decide +kernel
theorem xg_disj (s s' : Dev nD) (h : s ≠ s') : Disjoint (xgOwn s).view.set (xgOwn s').view.set := by
  rw [xg_set, xg_set]
  exact Ring.lead_disjoint (s := S16x128x512) (NB := 8) 0 2 (fun b => k0_off3 b) S2x128x512.size k0_off3_inb off3_zero rfl s s' h
theorem xg_cover : Finset.univ.biUnion xgSet = Finset.univ := by
  rw [Finset.biUnion_congr rfl fun s _ => xg_set s]
  exact Ring.lead_cover (s := S16x128x512) (NB := 8) 0 2 (fun b => k0_off3 b) S2x128x512.size k0_off3_inb off3_zero off3_rest rfl (by decide) (by decide)

/-- The gathered input: slot `s` holds device `s`'s. -/
def xgAll (xs : Dev nD → Vec F S2x128x512 .bf16) : Vec F S16x128x512 .bf16 :=
  fun i => xs ⟨(i 0).val / 2, by have : (i 0).val < 16 := (i 0).isLt; show _ < 8; omega⟩ (ix3 (n0 := 2) ⟨(i 0).val % 2, by omega⟩ (i 1) (i 2))

/-- A load of slot `s`, at any offsets that come to its own, reads device `s`'s input. -/
theorem load_xg (xs : Dev nD → Vec F S2x128x512 .bf16) (s : Dev nD) (off : Fin 3 → Nat) (h : ∀ a, off a + S2x128x512.size a ≤ S16x128x512.size a)
    (ho : off = ![2 * s.val, 0, 0]) : xgM.view.readAt (Elt F) (Rect.unit (s := S16x128x512) off S2x128x512.size h).toLoadRect (xgAll xs) = xs s := by
  subst ho
  funext k
  show xs ⟨(2 * s.val + 1 * (k 0).val) / 2, _⟩ (ix3 (n0 := 2) ⟨(2 * s.val + 1 * (k 0).val) % 2, _⟩ _ _) = xs s k
  have hk : (k 0).val < 2 := (k 0).isLt
  refine congrArg₂ (fun (p : Dev nD) q => xs p q) ?_ ?_
  · apply Fin.ext; show (2 * s.val + 1 * (k 0).val) / 2 = s.val; omega
  · funext a
    match a with
    | 0 => exact Fin.ext (show (2 * s.val + 1 * (k 0).val) % 2 = (k 0).val by omega)
    | 1 => exact Fin.ext (show 0 + 1 * (k 1).val = (k 1).val by omega)
    | 2 => exact Fin.ext (show 0 + 1 * (k 2).val = (k 2).val by omega)

theorem off2_eq : ∀ s : Dev nD, k0_off2 s = ![2 * s.val, 0, 0] := k0_off2_eq
theorem off3_eq : ∀ s : Dev nD, k0_off3 s = ![2 * s.val, 0, 0] := k0_off3_eq
theorem off5_eq : ∀ (d : Dev nD) (j : Fin 7), k0_off5 d (BitVec.ofNat 32 (1 + j.val)) = ![2 * (dn d j).val, 0, 0] := by decide +kernel
theorem off4_eq : ∀ (d : Dev nD) (bl : Fin 2), k0_off4 d (BitVec.ofNat 32 bl.val) = ![2 * d.val + bl.val, 0, 0] := by decide +kernel
theorem off6_eq : ∀ (d : Dev nD) (j : Fin 7) (bl : Fin 2), k0_off6 d (BitVec.ofNat 32 (1 + j.val)) (BitVec.ofNat 32 bl.val) = ![2 * (dn d j).val + bl.val, 0, 0] := by decide +kernel

theorem read_xg (xs : Dev nD → Vec F S2x128x512 .bf16) (s : Dev nD) : (xgOwn s).view.read (Elt F) (xgAll xs) = xs s :=
  load_xg xs s _ _ (off3_eq s)

/-- The set a load at such offsets reads is the slot's. -/
theorem load_xg_set (s : Dev nD) (off : Fin 3 → Nat) (h : ∀ a, off a + S2x128x512.size a ≤ S16x128x512.size a)
    (ho : off = ![2 * s.val, 0, 0]) : (xgM.access (Rect.unit (s := S16x128x512) off S2x128x512.size h)).set = (xgOwn s).view.set := by
  subst ho
  have e : ∀ (o o' : Fin 3 → Nat) (h : ∀ a, o a + S2x128x512.size a ≤ S16x128x512.size a) (h' : ∀ a, o' a + S2x128x512.size a ≤ S16x128x512.size a),
      o = o' → (xgM.access (Rect.unit (s := S16x128x512) o S2x128x512.size h)).set = (xgM.access (Rect.unit (s := S16x128x512) o' S2x128x512.size h')).set := by
    intro o o' h h' e; subst e; rfl
  exact e _ _ _ _ (off3_eq s).symm

/-! ## A view written whole with what it reads of `f` holds `f` on its elements -/

theorem write_eq_of_read {κ : Kind} {sp : Space} {s : Shape} {e : EltTy} {Val : EltTy → Type} (v : View sig κ sp s e) (fd f : v.ty.Contents Val) (w : s.Idx → Val e)
    (h : v.read Val f = w) : ∀ i ∈ v.set, v.write Val fd w Finset.univ i = f i := by
  intro i hi
  obtain ⟨k, -, rfl⟩ := Finset.mem_map.mp hi
  rw [View.write_emb_of_mem _ _ (Finset.mem_univ _), ← h, View.read_apply, cast_cast, cast_eq]

/-! ## Slots of the exchange buffers -/

theorem buf_set (j : Fin 7) : (bufSl sbM j).view.set = (Rect.unit (s := S7x2x128x512) ![j.val, 0, 0, 0] S1x2x128x512.size (inb_buf j)).set :=
  (View.set_reshape (v := sbM.view.slice _) _).trans (View.set_slice_whole cc0_scratch4 _)
theorem rbuf_set (j : Fin 7) : (bufSl rbM j).view.set = (Rect.unit (s := S7x2x128x512) ![j.val, 0, 0, 0] S1x2x128x512.size (inb_buf j)).set :=
  (View.set_reshape (v := rbM.view.slice _) _).trans (View.set_slice_whole cc0_scratch5 _)
theorem buf_disj0 (j j' : Fin 7) (h : j ≠ j') : Disjoint (Rect.unit (s := S7x2x128x512) ![j.val, 0, 0, 0] S1x2x128x512.size (inb_buf j)).set
    (Rect.unit (s := S7x2x128x512) ![j'.val, 0, 0, 0] S1x2x128x512.size (inb_buf j')).set :=
  Ring.lead_disjoint (s := S7x2x128x512) (NB := 7) 0 1 (fun b => ![b.val, 0, 0, 0]) S1x2x128x512.size inb_buf (by decide +kernel) rfl j j' h
theorem buf_cover0 : Finset.univ.biUnion (fun j : Fin 7 => (Rect.unit (s := S7x2x128x512) ![j.val, 0, 0, 0] S1x2x128x512.size (inb_buf j)).set) = Finset.univ :=
  Ring.lead_cover (s := S7x2x128x512) (NB := 7) 0 1 (fun b => ![b.val, 0, 0, 0]) S1x2x128x512.size inb_buf (by decide +kernel) (by decide +kernel) rfl (by decide) (by decide)
theorem buf_disj (j j' : Fin 7) (h : j ≠ j') : Disjoint (bufSl sbM j).view.set (bufSl sbM j').view.set := by rw [buf_set, buf_set]; exact buf_disj0 j j' h
theorem rbuf_disj (j j' : Fin 7) (h : j ≠ j') : Disjoint (bufSl rbM j).view.set (bufSl rbM j').view.set := by rw [rbuf_set, rbuf_set]; exact buf_disj0 j j' h
theorem buf_cover : Finset.univ.biUnion sbSet = Finset.univ := by
  rw [Finset.biUnion_congr rfl fun s _ => buf_set s]; exact buf_cover0
theorem rbuf_cover : Finset.univ.biUnion rbSet = Finset.univ := by
  rw [Finset.biUnion_congr rfl fun s _ => rbuf_set s]; exact buf_cover0

/-- An exchange buffer with slot `j` holding `zs j`. -/
def bufAll (zs : Fin 7 → Vec F S1x2x128x512 .bf16) : Vec F S7x2x128x512 .bf16 :=
  fun i => zs (i 0) (ix4 (n0 := 1) 0 (i 1) (i 2) (i 3))

theorem load_buf (zs : Fin 7 → Vec F S1x2x128x512 .bf16) (j : Fin 7) :
    rbM.view.readAt (Elt F) (Rect.unit (s := S7x2x128x512) ![j.val, 0, 0, 0] S1x2x128x512.size (inb_buf j)).toLoadRect (bufAll zs) = zs j := by
  funext k
  have hk : (k 0).val < 1 := (k 0).isLt
  show zs ⟨j.val + 1 * (k 0).val, _⟩ _ = zs j k
  refine congrArg₂ (fun (p : Fin 7) q => zs p q) ?_ ?_
  · apply Fin.ext; show j.val + 1 * (k 0).val = j.val; omega
  · funext a
    match a with
    | 0 => exact Fin.ext (show 0 = (k 0).val by omega)
    | 1 => exact Fin.ext (show 0 + 1 * (k 1).val = (k 1).val by omega)
    | 2 => exact Fin.ext (show 0 + 1 * (k 2).val = (k 2).val by omega)
    | 3 => exact Fin.ext (show 0 + 1 * (k 3).val = (k 3).val by omega)

theorem load_sbuf (zs : Fin 7 → Vec F S1x2x128x512 .bf16) (j : Fin 7) :
    (sbM.access (Rect.unit (s := S7x2x128x512) ![j.val, 0, 0, 0] S1x2x128x512.size (inb_buf j))).read (Elt F) (bufAll zs) = zs j :=
  load_buf zs j

theorem sbuf_access_set (j : Fin 7) : (sbM.access (Rect.unit (s := S7x2x128x512) ![j.val, 0, 0, 0] S1x2x128x512.size (inb_buf j))).set = (bufSl sbM j).view.set :=
  (View.set_reshape (v := sbM.view.slice _) _).symm
theorem rbuf_access_set (j : Fin 7) : (rbM.access (Rect.unit (s := S7x2x128x512) ![j.val, 0, 0, 0] S1x2x128x512.size (inb_buf j))).set = (bufSl rbM j).view.set :=
  (View.set_reshape (v := rbM.view.slice _) _).symm

/-- The two exchange buffers' slots, holding equal blocks, read alike. -/
theorem read_buf (zs ys : Fin 7 → Vec F S1x2x128x512 .bf16) (j : Fin 7) (h : zs j = ys j) :
    (bufSl rbM j).view.read (Elt F) (bufAll zs) = (bufSl sbM j).view.read (Elt F) (bufAll ys) := by
  have e : (rbM.view.readAt (Elt F) (Rect.unit (s := S7x2x128x512) ![j.val, 0, 0, 0] S1x2x128x512.size (inb_buf j)).toLoadRect (bufAll zs))
      = (sbM.access (Rect.unit (s := S7x2x128x512) ![j.val, 0, 0, 0] S1x2x128x512.size (inb_buf j))).read (Elt F) (bufAll ys) := by
    rw [load_buf, load_sbuf, h]
  funext k
  exact congrFun e (Shape.reshapeEquiv squeezes_S1x2x128x512_S2x128x512.numel_eq k)

/-! ## Planes of the K and V buffers -/

theorem kv_set0 (b : Ref sig .tc) (r : Rect b.ty.shape) {s' : Shape} (h : s'.numel = r.shape.numel) : (((View.whole b).slice r).reshape s' h).set = r.set :=
  (View.set_reshape (v := (View.whole b).slice r) _).trans (View.set_slice_whole b _)
theorem k_set (h : Fin 8) : (kvSl kM h).view.set = (Rect.unit (s := S8x16x128x64) ![h.val, 0, 0, 0] S1x16x128x64.size (inb_kv h)).set := kv_set0 cc0_scratch1 _ _
theorem v_set (h : Fin 8) : (kvSl vM h).view.set = (Rect.unit (s := S8x16x128x64) ![h.val, 0, 0, 0] S1x16x128x64.size (inb_kv h)).set := kv_set0 cc0_scratch2 _ _
theorem kv_disj0 (j j' : Fin 8) (h : j ≠ j') : Disjoint (Rect.unit (s := S8x16x128x64) ![j.val, 0, 0, 0] S1x16x128x64.size (inb_kv j)).set
    (Rect.unit (s := S8x16x128x64) ![j'.val, 0, 0, 0] S1x16x128x64.size (inb_kv j')).set :=
  Ring.lead_disjoint (s := S8x16x128x64) (NB := 8) 0 1 (fun b => ![b.val, 0, 0, 0]) S1x16x128x64.size inb_kv (by decide +kernel) rfl j j' h
theorem kv_cover0 : Finset.univ.biUnion (fun j : Fin 8 => (Rect.unit (s := S8x16x128x64) ![j.val, 0, 0, 0] S1x16x128x64.size (inb_kv j)).set) = Finset.univ :=
  Ring.lead_cover (s := S8x16x128x64) (NB := 8) 0 1 (fun b => ![b.val, 0, 0, 0]) S1x16x128x64.size inb_kv (by decide +kernel) (by decide +kernel) rfl (by decide) (by decide)
theorem k_disj (j j' : Fin 8) (h : j ≠ j') : Disjoint (kvSl kM j).view.set (kvSl kM j').view.set := by rw [k_set, k_set]; exact kv_disj0 j j' h
theorem v_disj (j j' : Fin 8) (h : j ≠ j') : Disjoint (kvSl vM j).view.set (kvSl vM j').view.set := by rw [v_set, v_set]; exact kv_disj0 j j' h
theorem k_cover : Finset.univ.biUnion kSet = Finset.univ := by
  rw [Finset.biUnion_congr rfl fun s _ => k_set s]; exact kv_cover0
theorem v_cover : Finset.univ.biUnion vSet = Finset.univ := by
  rw [Finset.biUnion_congr rfl fun s _ => v_set s]; exact kv_cover0

/-- A device's eight heads of K or V, a plane each. -/
def kvAll (A : Vec F S16x128x64x64 .f32) (d : Dev nD) : Vec F S8x16x128x64 .f32 :=
  fun i => A (ix4 (n0 := 16) (n1 := 128) (n2 := 64) (n3 := 64) (i 1) (i 2) ⟨8 * d.val + (i 0).val, by have : (i 0).val < 8 := (i 0).isLt; have : d.val < 8 := d.isLt; omega⟩ (i 3))
/-- Row `b` of head `h` of a device's. -/
def kvRow (A : Vec F S16x128x64x64 .f32) (d : Dev nD) (h : Fin 8) (b : Fin 16) : Vec F S1x128x64 .f32 :=
  fun i => A (ix4 (n0 := 16) (n1 := 128) (n2 := 64) (n3 := 64) b (i 1) ⟨8 * d.val + h.val, by have : d.val < 8 := d.isLt; omega⟩ (i 2))

theorem eq_ix3 {a b c : Nat} (k : (⟨3, ![a, b, c]⟩ : Shape).Idx) : k = ix3 (k 0) (k 1) (k 2) := by
  funext x; match x with | 0 => rfl | 1 => rfl | 2 => rfl

theorem reshape_src {a b c : Nat} (h : (⟨3, ![a, b, c]⟩ : Shape).numel = (⟨4, ![a, b, 1, c]⟩ : Shape).numel)
    (x : Fin a) (y : Fin b) (z : Fin c) : Shape.reshapeEquiv h (ix3 x y z) = ix4 x y (⟨0, Nat.one_pos⟩ : Fin 1) z :=
  Shape.reshapeEquiv_eq_of_rowMajor h (by
    rw [Shape.rowMajor_val_four, Shape.rowMajor_val_three]
    show (((x.val * b + y.val) * 1 + 0) * c + z.val) = (x.val * b + y.val) * c + z.val
    simp only [Nat.mul_one, Nat.add_zero])

theorem read_kvSl (M : Memref sig .tc .vmem S8x16x128x64 .f32) (h : Fin 8) (f : M.view.ty.Contents (Elt F)) (k : S16x128x64.Idx) :
    (kvSl M h).view.read (Elt F) f k = M.view.read (Elt F) f (ix4 h (k 0) (k 1) (k 2)) := by
  rw [eq_ix3 k]
  show M.view.read (Elt F) f ((Rect.unit (s := S8x16x128x64) ![h.val, 0, 0, 0] S1x16x128x64.size (inb_kv h)).emb (Shape.reshapeEquiv squeezes_S1x16x128x64_S16x128x64.numel_eq (ix3 (k 0) (k 1) (k 2)))) = _
  refine congrArg _ ?_
  rw [show Shape.reshapeEquiv squeezes_S1x16x128x64_S16x128x64.numel_eq (ix3 (k 0) (k 1) (k 2)) = ix4 (⟨0, Nat.one_pos⟩ : Fin 1) (k 0) (k 1) (k 2) from ValueIdx.reshapeEquiv_ix3_1abc _ _ _ _]
  funext a
  match a with
  | 0 => exact Fin.ext (show h.val + 1 * 0 = h.val by omega)
  | 1 => exact Fin.ext (show 0 + 1 * (k 0).val = (k 0).val by omega)
  | 2 => exact Fin.ext (show 0 + 1 * (k 1).val = (k 1).val by omega)
  | 3 => exact Fin.ext (show 0 + 1 * (k 2).val = (k 2).val by omega)

theorem off1_eq : ∀ (d : Dev nD) (h : Fin 8), k0_off1 d (BitVec.ofNat 32 h.val) = ![0, 0, 8 * d.val + h.val, 0] := by decide +kernel

theorem read_kvSrc (M : Memref sig .tc .hbm S16x128x64x64 .f32) (d : Dev nD) (h : Fin 8) (f : M.view.ty.Contents (Elt F)) (k : S16x128x64.Idx) :
    (kvSrc M d h).view.read (Elt F) f k
      = M.view.read (Elt F) f (ix4 (k 0) (k 1) ⟨8 * d.val + h.val, by have : d.val < 8 := d.isLt; omega⟩ (k 2)) := by
  rw [eq_ix3 k]
  show M.view.read (Elt F) f ((Rect.unit (s := S16x128x64x64) (k0_off1 d (BitVec.ofNat 32 h.val)) S16x128x1x64.size (k0_off1_inb d h)).emb (Shape.reshapeEquiv squeezes_S16x128x1x64_S16x128x64.numel_eq (ix3 (k 0) (k 1) (k 2)))) = _
  refine congrArg _ ?_
  rw [show Shape.reshapeEquiv squeezes_S16x128x1x64_S16x128x64.numel_eq (ix3 (k 0) (k 1) (k 2)) = ix4 (k 0) (k 1) (⟨0, Nat.one_pos⟩ : Fin 1) (k 2) from reshape_src _ _ _ _]
  funext a
  have e := congrFun (off1_eq d h)
  match a with
  | 0 => exact Fin.ext (show k0_off1 d (BitVec.ofNat 32 h.val) 0 + 1 * (k 0).val = (k 0).val by rw [e 0]; show 0 + _ = _; omega)
  | 1 => exact Fin.ext (show k0_off1 d (BitVec.ofNat 32 h.val) 1 + 1 * (k 1).val = (k 1).val by rw [e 1]; show 0 + _ = _; omega)
  | 2 => exact Fin.ext (show k0_off1 d (BitVec.ofNat 32 h.val) 2 + 1 * 0 = 8 * d.val + h.val by rw [e 2]; rfl)
  | 3 => exact Fin.ext (show k0_off1 d (BitVec.ofNat 32 h.val) 3 + 1 * (k 2).val = (k 2).val by rw [e 3]; show 0 + _ = _; omega)

theorem read_k (A : Vec F S16x128x64x64 .f32) (d : Dev nD) (h : Fin 8) : (kvSl kM h).view.read (Elt F) (kvAll A d) = (kvSrc kH d h).view.read (Elt F) A := by
  funext k; rw [read_kvSl, read_kvSrc]; rfl
theorem read_v (A : Vec F S16x128x64x64 .f32) (d : Dev nD) (h : Fin 8) : (kvSl vM h).view.read (Elt F) (kvAll A d) = (kvSrc vH d h).view.read (Elt F) A := by
  funext k; rw [read_kvSl, read_kvSrc]; rfl

theorem load_k (A : Vec F S16x128x64x64 .f32) (d : Dev nD) (h : Fin 8) (b : Fin 16) (off : Fin 3 → Nat) (ho : ∀ a, off a + S1x128x64.size a ≤ S16x128x64.size a)
    (e : off = ![b.val, 0, 0]) : (kvSl kM h).view.readAt (Elt F) (Rect.unit (s := S16x128x64) off S1x128x64.size ho).toLoadRect (kvAll A d) = kvRow A d h b := by
  subst e
  funext k
  show (kvSl kM h).view.read (Elt F) (kvAll A d) ((Rect.unit (s := S16x128x64) ![b.val, 0, 0] S1x128x64.size ho).emb k) = _
  have hk : (k 0).val < 1 := (k 0).isLt
  rw [read_kvSl]
  refine congrArg A ?_
  funext a
  match a with
  | 0 => exact Fin.ext (show b.val + 1 * (k 0).val = b.val by omega)
  | 1 => exact Fin.ext (show 0 + 1 * (k 1).val = (k 1).val by omega)
  | 2 => rfl
  | 3 => exact Fin.ext (show 0 + 1 * (k 2).val = (k 2).val by omega)
theorem load_v (A : Vec F S16x128x64x64 .f32) (d : Dev nD) (h : Fin 8) (b : Fin 16) (off : Fin 3 → Nat) (ho : ∀ a, off a + S1x128x64.size a ≤ S16x128x64.size a)
    (e : off = ![b.val, 0, 0]) : (kvSl vM h).view.readAt (Elt F) (Rect.unit (s := S16x128x64) off S1x128x64.size ho).toLoadRect (kvAll A d) = kvRow A d h b := by
  subst e
  funext k
  show (kvSl vM h).view.read (Elt F) (kvAll A d) ((Rect.unit (s := S16x128x64) ![b.val, 0, 0] S1x128x64.size ho).emb k) = _
  have hk : (k 0).val < 1 := (k 0).isLt
  rw [read_kvSl]
  refine congrArg A ?_
  funext a
  match a with
  | 0 => exact Fin.ext (show b.val + 1 * (k 0).val = b.val by omega)
  | 1 => exact Fin.ext (show 0 + 1 * (k 1).val = (k 1).val by omega)
  | 2 => rfl
  | 3 => exact Fin.ext (show 0 + 1 * (k 2).val = (k 2).val by omega)

end Cert.KernelIdeal.My

end
-- ==== Proof.KI.Sched.lean ====
/- The exchange's schedule: what every wait of the kernel hands over, with contents; what a device owes; the levels. -/
module

public import proofs.«01_k».proof.Proof.KI.Geom
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ShareLeaves
public import Idealize.ShloMosaic.Lib.Tactic

@[expose] public section

noncomputable section

namespace Cert.KernelIdeal.My

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ShareLeaves
open Idealize.ShloMosaic.Pipeline (Dat Cfg Window BodyObligation cellOf)

variable {F : FTy → Type} [FloatOps F]

/-! ## The resource algebra: the pipeline's rounds, the exchange's rounds, the local transfers' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's copy, the left half of the right factor. -/
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s input, query weights, output weights, keys and values. -/
def xAt (c : Dev nD) : Vec F S2x128x512 .bf16 := (win0_0.blk (0 : Fin 1)).view.read (Elt F) ((s₀ m ρ).mem ((c : Thread nD τ).loc main_arg0))
def wqAt (c : Dev nD) : Vec F S512x512 .bf16 := (win0_1.blk (0 : Fin 1)).view.read (Elt F) ((s₀ m ρ).mem ((c : Thread nD τ).loc main_arg1))
def woAt (c : Dev nD) : Vec F S512x512 .bf16 := (win0_2.blk (0 : Fin 1)).view.read (Elt F) ((s₀ m ρ).mem ((c : Thread nD τ).loc main_arg4))
def kArr (c : Dev nD) : Vec F S16x128x64x64 .f32 := m ((c : Thread nD τ).loc main_arg2)
def vArr (c : Dev nD) : Vec F S16x128x64x64 .f32 := m ((c : Thread nD τ).loc main_arg3)

/-- The batch row `2 s + bl`. -/
def rowNo (s : Dev nD) (bl : Fin 2) : Fin 16 := ⟨2 * s.val + bl.val, by have : s.val < 8 := s.isLt; omega⟩
/-- Row `bl` of slot `s`, device `p`'s eight heads' attention on it. -/
def rowAt (p s : Dev nD) (bl : Fin 2) : FVec F S128x512 .bf16 :=
  rowVal fun h => headVal (qVal (wqAt m ρ p) (xAt m ρ s)) bl h (kvRow (kArr m p) p h (rowNo s bl)) (kvRow (vArr m p) p h (rowNo s bl))
/-- Device `p`'s partial result on slot `s`. -/
def slotZ (p s : Dev nD) : FVec F S256x512 .f32 := outVal (woAt m ρ p) (rowAt m ρ p s 0) (rowAt m ρ p s 1)
/-- What device `c` stores to send, and what it receives. -/
def sent (c : Dev nD) (j : Fin 7) : Vec F S1x2x128x512 .bf16 := sendVal (slotZ m ρ c (dn c j))
def recvd (c : Dev nD) (j : Fin 7) : Vec F S1x2x128x512 .bf16 := sendVal (slotZ m ρ (up c j) c)
/-- The kernel's result on device `c`. -/
def outAt (c : Dev nD) : FVec F S2x128x512 .f32 :=
  addVal (addVal (addVal (addVal (addVal (addVal (addVal (accVal (slotZ m ρ c c)) (recvd m ρ c 0)) (recvd m ρ c 1)) (recvd m ρ c 2)) (recvd m ρ c 3)) (recvd m ρ c 4)) (recvd m ρ c 5)) (recvd m ρ c 6)

theorem sent_dn (c : Dev nD) (j : Fin 7) : recvd m ρ (dn c j) j = sent m ρ c j := by unfold recvd sent; rw [up_dn]

/-! ## The cells -/

/-- A device's cells: the barrier's (`none`); arrivals' and departures' of the two exchanges. -/
abbrev CI : Type := Option (Fin 4 × Fin 7)
/-- The four arrays of seven: gathering departures, gathering arrivals, scattering departures, scattering arrivals. -/
abbrev arr7 : Fin 4 → DmaSems sig S7 := ![cc0_scratch7, cc0_scratch8, cc0_scratch9, cc0_scratch10]
abbrev csem : CI → SemLoc sig := fun | none => .reg barSem | some (a, j) => .dma (sem7 (arr7 a) j)
abbrev kcell (c : Dev nD) (i : CI) : GSem nD τ sig := ((c : Thread nD τ), csem i)

/-- Which cell a semaphore is. -/
def dec : SemLoc sig → Option CI
  | .reg s => if s = barSem then some none else none
  | .dma q => if h : 20 ≤ q.val ∧ q.val < 48 then some (some (⟨(q.val - 20) / 7, by omega⟩, ⟨(q.val - 20) % 7, by omega⟩)) else none

theorem dec_csem : ∀ i : CI, dec (csem i) = some i := by decide +kernel

/-- The credit of one block. -/
abbrev N : ℕ := (bufSl rbM 0).view.dmaCredit
theorem N_pos : 0 < N := View.dmaCredit_pos _ (by decide)

def arrPts (c : Dev nD) (b : Ref sig .tc) (S : Finset b.ty.Idx) (q : PosShare TreeShare) (f : b.ty.Contents (Elt F)) : sProp 𝕄 :=
  ((c : Thread nD τ).loc b) ↦[S]{q} (f : Buf (Elt F) ((c : Thread nD τ).loc b))
instance arrPts_storable (c : Dev nD) (b : Ref sig .tc) (S) (q) (f) : BI.Storable (upEmb : UEmb _ 𝕄) (arrPts (F := F) c b S q f) := by unfold arrPts; infer_instance

/-! ## The schedule -/

/-- Device `c`'s own slot of the gathered input, lent to gathering copy `j`: one of eight shares. -/
abbrev shr (j : Fin 8) : PosShare TreeShare := leaf 3 fullShare j

/-- With signal `j` of the device `j + 1` before `c`: that device's slot for `c`'s input and its slot `j` for `c`'s result. -/
def barPay (c : Dev nD) (j : Fin 7) : sProp 𝕄 :=
  iprop((∃ f, arrPts (F := F) (dn c j) cc0_scratch0 (xgSet c) fullShare f) ∗ (∃ f, arrPts (F := F) (dn c j) cc0_scratch5 (rbSet j) fullShare f))
/-- With a copy's completion: the source lent, or the block landed. -/
def xferPay (c : Dev nD) : Fin 4 → Fin 7 → sProp 𝕄
  | 0, j => arrPts c cc0_scratch0 (xgSet c) (shr j.castSucc) (xgAll (xAt m ρ))
  | 1, j => arrPts c cc0_scratch0 (xgSet (dn c j)) fullShare (xgAll (xAt m ρ))
  | 2, j => arrPts c cc0_scratch4 (sbSet j) fullShare (bufAll (sent m ρ c))
  | 3, j => arrPts c cc0_scratch5 (rbSet j) fullShare (bufAll (recvd m ρ c))

instance barPay_storable (c : Dev nD) (j : Fin 7) : BI.Storable (upEmb : UEmb _ 𝕄) (barPay (F := F) c j) := by unfold barPay; infer_instance
instance xferPay_storable (c : Dev nD) (a : Fin 4) (j : Fin 7) : BI.Storable (upEmb : UEmb _ 𝕄) (xferPay m ρ c a j) := by
  match a with
  | 0 => exact arrPts_storable _ _ _ _ _
  | 1 => exact arrPts_storable _ _ _ _ _
  | 2 => exact arrPts_storable _ _ _ _ _
  | 3 => exact arrPts_storable _ _ _ _ _

/-- Who pays a cell in its one round: the barrier's seven signals, or one copy. -/
def dutiesOf : Option CI → Finset (Fin 7)
  | some none => Finset.univ
  | some (some _) => {0}
  | none => ∅
/-- How much one payment is. -/
def amountOf : Option CI → ℕ
  | some none => 1
  | _ => N
/-- What it hands over. -/
def payOf (c : Dev nD) : Option CI → Fin 7 → sProp 𝕄
  | some none, j => barPay c j
  | some (some (a, j)), _ => xferPay m ρ c a j
  | none, _ => iprop(emp)

/-- One round, round 0, at every device's cells. -/
def Rd : Rounds.Schedule (GSem nD τ sig) (Fin 7) 𝕄 where
  duties g r := if r = 0 ∧ g.1.2 = .tc then dutiesOf (dec g.2) else ∅
  unitless _ := False
  amount g _ _ := amountOf (dec g.2)
  payload g _ d := payOf m ρ g.1.1 (dec g.2) d
  amount_pos g _ _ _ := by
    rcases dec g.2 with _ | _ | _
    · exact N_pos
    · exact Nat.one_pos
    · exact N_pos

instance Rd_payload_storable (g : GSem nD τ sig) (r : ℕ) (d : Fin 7) : BI.Storable (upEmb : UEmb _ 𝕄) ((Rd (F := F) m ρ).payload g r d) := by
  show BI.Storable upEmb (payOf m ρ g.1.1 (dec g.2) d)
  rcases dec g.2 with _ | _ | ⟨a, j⟩
  · show BI.Storable upEmb iprop(emp); infer_instance
  · exact barPay_storable _ _
  · exact xferPay_storable _ _ _ _ _

section Sched
variable (c : Dev nD)

theorem duties_bar : (Rd (F := F) m ρ).duties (kcell c none) 0 = Finset.univ := by
  dsimp only [Rd]; rw [if_pos ⟨rfl, rfl⟩, dec_csem]; rfl
theorem duties_x (a : Fin 4) (j : Fin 7) : (Rd (F := F) m ρ).duties (kcell c (some (a, j))) 0 = {0} := by
  dsimp only [Rd]; rw [if_pos ⟨rfl, rfl⟩, dec_csem]; rfl
theorem duties_later (g : GSem nD τ sig) : ∀ r, 1 ≤ r → (Rd (F := F) m ρ).duties g r = ∅ :=
  fun r hr => by dsimp only [Rd]; rw [if_neg fun h => by omega]
theorem amount_bar (d : Fin 7) : (Rd (F := F) m ρ).amount (kcell c none) 0 d = 1 := by dsimp only [Rd]; rw [dec_csem]; rfl
theorem amount_x (a : Fin 4) (j d : Fin 7) : (Rd (F := F) m ρ).amount (kcell c (some (a, j))) 0 d = N := by dsimp only [Rd]; rw [dec_csem]; rfl
theorem payload_bar (d : Fin 7) : (Rd (F := F) m ρ).payload (kcell c none) 0 d = barPay c d := by dsimp only [Rd]; rw [dec_csem]; rfl
theorem payload_x (a : Fin 4) (j d : Fin 7) : (Rd (F := F) m ρ).payload (kcell c (some (a, j))) 0 d = xferPay m ρ c a j := by dsimp only [Rd]; rw [dec_csem]; rfl
theorem expect_bar : (Rd (F := F) m ρ).expect (kcell c none) 0 = 7 := by
  unfold Schedule.expect Schedule.amountOf
  rw [duties_bar, Finset.sum_congr rfl fun d _ => amount_bar m ρ c d]; rfl
theorem expect_x (a : Fin 4) (j : Fin 7) : (Rd (F := F) m ρ).expect (kcell c (some (a, j))) 0 = N := by
  unfold Schedule.expect Schedule.amountOf; rw [duties_x, Finset.sum_singleton, amount_x]
theorem rest_bar : bigSep ((Rd (F := F) m ρ).duties (kcell c none) 0 \ ∅) (fun d => (Rd (F := F) m ρ).payload (kcell c none) 0 d)
    = bigSep Finset.univ (barPay (F := F) c) := by
  rw [Finset.sdiff_empty, duties_bar]; exact bigSep_congr fun d _ => payload_bar m ρ c d
theorem rest_x (a : Fin 4) (j : Fin 7) : bigSep ((Rd (F := F) m ρ).duties (kcell c (some (a, j))) 0 \ ∅) (fun d => (Rd (F := F) m ρ).payload (kcell c (some (a, j))) 0 d)
    = xferPay m ρ c a j := by
  rw [Finset.sdiff_empty, duties_x, bigSep_singleton, payload_x]
end Sched

/-! ## What a device owes, and the levels -/

/-- The steps from number `n` on. -/
def todo (n : ℕ) : Finset (Fin 7) := Finset.univ.filter fun j => n ≤ j.val
/-- What the steps from number `n` on owe. -/
def tsum (n : ℕ) (f : Fin 7 → CellTallies nD τ sig Unit) : CellTallies nD τ sig Unit := ∑ j ∈ todo n, f j
theorem todo_step (j : Fin 7) : todo j.val = insert j (todo (j.val + 1)) := by revert j; decide
theorem not_mem_todo (j : Fin 7) : j ∉ todo (j.val + 1) := by revert j; decide
theorem tsum_step (j : Fin 7) (f : Fin 7 → CellTallies nD τ sig Unit) : tsum j.val f = tsum (j.val + 1) f + f j := by
  unfold tsum; rw [todo_step, Finset.sum_insert (not_mem_todo j), add_comm]
theorem tsum_end (f : Fin 7 → CellTallies nD τ sig Unit) : tsum 7 f = 0 := by
  unfold tsum; rw [show todo 7 = ∅ by decide]; rfl
theorem tsum_apply (n : ℕ) (f : Fin 7 → CellTallies nD τ sig Unit) (g : GSem nD τ sig) (u : Unit) : tsum n f g u = ∑ j ∈ todo n, f j g u := by
  unfold tsum; rw [Finset.sum_apply, Finsupp.finset_sum_apply]
theorem tsum_pos {n : ℕ} {f : Fin 7 → CellTallies nD τ sig Unit} {g : GSem nD τ sig} {u : Unit} (h : 0 < tsum n f g u) : ∃ j, 0 < f j g u := by
  rw [tsum_apply] at h
  obtain ⟨j, -, hj⟩ := Finset.exists_ne_zero_of_sum_ne_zero (Nat.pos_iff_ne_zero.mp h)
  exact ⟨j, Nat.pos_of_ne_zero hj⟩

/-- The units of a device's signals, of its gathering copies' arrivals, of its scattering copies' arrivals. -/
def fb (c : Dev nD) (j : Fin 7) : CellTallies nD τ sig Unit := tallyAt (kcell (up c j) none) () 1
def fa (c : Dev nD) (j : Fin 7) : CellTallies nD τ sig Unit := tallyAt (kcell (up c j) (some (1, j))) () N
def fr (c : Dev nD) (j : Fin 7) : CellTallies nD τ sig Unit := tallyAt (kcell (dn c j) (some (3, j))) () N
/-- All a device owes at launch. -/
def O₀ (c : Dev nD) : CellTallies nD τ sig Unit := tsum 0 (fb c) + (tsum 0 (fa c) + tsum 0 (fr c))

def L (g : GSem nD τ sig) : Finset Unit := if g.1.2 = .tc then {()} else ∅
/-- The level of a cell: barrier 1, gathering arrivals 2, scattering arrivals 3, everything else 0. -/
def lvOf : Option CI → ℕ
  | some none => 1
  | some (some (1, _)) => 2
  | some (some (3, _)) => 3
  | _ => 0
def lv (g : GSem nD τ sig) (_ : Unit) : ℕ := lvOf (dec g.2)
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (kcell c i) u = lvOf (some i) := by unfold lv; rw [dec_csem]

/-- A single cell's tally is positive at that cell alone. -/
theorem tallyAt_pos {g' g : GSem nD τ sig} {u : Unit} {k : ℕ} (h : 0 < (tallyAt g' () k : CellTallies nD τ sig Unit) g u) : g = g' := by
  by_contra hn
  rw [tallyAt_apply, if_neg (fun h' => hn h'.1)] at h
  exact Nat.lt_irrefl 0 h

/-- Everything in `O` is on a TensorCore's cell above level `b`. -/
def Above (b : ℕ) (O : CellTallies nD τ sig Unit) : Prop := ∀ g u, 0 < O g u → u ∈ L g ∧ b < lv g u
theorem Above.add {b : ℕ} {O O' : CellTallies nD τ sig Unit} (h : Above b O) (h' : Above b O') : Above b (O + O') := fun g u hp => by
  rw [Pi.add_apply, Finsupp.add_apply] at hp
  rcases Nat.eq_zero_or_pos (O g u) with h0 | h0
  · exact h' g u (by omega)
  · exact h g u h0
theorem Above.tsum {b n : ℕ} {f : Fin 7 → CellTallies nD τ sig Unit} (h : ∀ j, Above b (f j)) : Above b (tsum n f) := fun g u hp => by
  obtain ⟨j, hj⟩ := tsum_pos hp
  exact h j g u hj
theorem Above.cell {b : ℕ} (c : Dev nD) (i : CI) (k : ℕ) (h : b < lvOf (some i)) : Above b (tallyAt (kcell c i) () k) := fun g u hp => by
  rw [tallyAt_pos hp]
  exact ⟨by rw [L_tc]; exact Finset.mem_singleton_self _, by rw [lv_cell]; exact h⟩
theorem above_b (c : Dev nD) (n : ℕ) : Above 0 (tsum n (fb c)) := Above.tsum fun j => Above.cell _ _ _ (by decide)
theorem above_a (c : Dev nD) (n : ℕ) : Above 1 (tsum n (fa c)) := Above.tsum fun j => Above.cell _ _ _ (by show 1 < 2; decide)
theorem above_r (c : Dev nD) (n : ℕ) : Above 2 (tsum n (fr c)) := Above.tsum fun j => Above.cell _ _ _ (by show 2 < 3; decide)
theorem Above.mono {b b' : ℕ} {O : CellTallies nD τ sig Unit} (h : Above b O) (hb : b' ≤ b) : Above b' O := fun g u hp => ⟨(h g u hp).1, lt_of_le_of_lt hb (h g u hp).2⟩
theorem above_zero (b : ℕ) : Above b 0 := fun g u hp => absurd hp (Nat.lt_irrefl 0)
theorem above_O₀ (c : Dev nD) : Above 0 (O₀ c) := (above_b c 0).add (((above_a c 0).mono (by decide)).add ((above_r c 0).mono (by decide)))

/-- A device may wait on a cell at or below level `b` while it owes only above. -/
theorem mayWait_above (c : Dev nD) (sm : SemLoc sig) (b : ℕ) (O : CellTallies nD τ sig Unit) (hb : lvOf (dec sm) ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hb) (fun g u hg => (hO g u hg).2)

end Cert.KernelIdeal.My

end
-- ==== Proof.KI.Steps.lean ====
/- One rule per step of the body: what the step takes and what it leaves, at every peer offset, head and row at once. -/
module

public import proofs.«01_k».proof.Proof.KI.Sched

@[expose] public section

noncomputable section

namespace Cert.KernelIdeal.My

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ShareLeaves
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none
abbrev EC : UEmb Counters 𝕄 := countersEmb

/-- The program `p` run by device `c`, to the post `Q`. -/
abbrev WP (c : Dev nD) {α : Type} (p : PR F α) (Q : α → sProp 𝕄) : sProp 𝕄 :=
  wp frame (wpE (defs₀ (F := F)) 𝒱₀ (c : Thread nD τ) none) Set.univ p Q

/-- Device `c` owes `O`, whatever it has waited for. -/
def ow (c : Dev nD) (O : CellTallies nD τ sig Unit) : sProp 𝕄 := iprop(∃ W, owes (c : Thread nD τ) O W)

section Body
variable (K : Dev nD × CI → ℕ)

/-- What every device knows: every cell's invariant, and that its round has begun. -/
def records : sProp 𝕄 :=
  iprop((bigSep Finset.univ fun ck : Dev nD × CI => cellInv ER (Rd m ρ) (K ck) (kcell ck.1 ck.2)) ∗ bigSep Finset.univ fun ck : Dev nD × CI => reached ER (kcell ck.1 ck.2) 0)
instance records_persistent : BI.Persistent (records (F := F) m ρ K) := by unfold records; infer_instance
theorem records_inv (c : Dev nD) (i : CI) : records (F := F) m ρ K ⊢ cellInv ER (Rd m ρ) (K (c, i)) (kcell c i) := by
  unfold records; exact sep_elim_left.trans (bigSep_elim (Finset.mem_univ (c, i)))
theorem records_reached (c : Dev nD) (i : CI) : records (F := F) m ρ K ⊢ reached ER (kcell c i) 0 := by
  unfold records; exact sep_elim_right.trans (bigSep_elim (Finset.mem_univ (c, i)))

/-! ## The handshake -/

theorem wp_sig (c : Dev nD) (O' : CellTallies nD τ sig Unit) (j : Fin 7) (Q : PUnit → sProp 𝕄) :
    iprop(records m ρ K ∗ ow c (tsum j.val (fb c) + O') ∗ dutyTok ER (kcell (up c j) none) 0 j
        ∗ (∃ f, arrPts (F := F) c cc0_scratch0 (xgSet (up c j)) fullShare f) ∗ (∃ f, arrPts (F := F) c cc0_scratch5 (rbSet j) fullShare f)
        ∗ (ow c (tsum (j.val + 1) (fb c) + O') -∗ Q ⟨⟩))
      ⊢ WP c (sigStep (F := F) c j) Q := by
  unfold sigStep WP
  simp only [bar_dev, semSignalWord, Prog.lift, Prog.bind_op, Prog.bind_ret, Prog.pure_eq_ret]
  unfold ow
  iintro ⟨#HR, ⟨%W, HO⟩, Ht, Hx, Hr, Hk⟩
  iapply (Rounds.wp_signal 𝒱₀ ER (Rd m ρ) (c : Thread nD τ) none (dst := (up c j : Thread nD τ)) (κ := K (up c j, none)) (d := j)
    (by show j ∈ (Rd m ρ).duties (kcell (up c j) none) 0; rw [duties_bar]; exact Finset.mem_univ _) ((amount_bar m ρ (up c j) j).trans (by decide)) ()
      (O₀ := tsum j.val (fb c) + O') (tsum (j.val + 1) (fb c) + O') (by rw [tsum_step j (fb c)]; exact add_right_comm _ _ _)) $$ [HO Ht Hx Hr]
  · isplitr; · iapply (records_inv m ρ K (up c j) none); iexact HR
    isplitl [HO]; · iexact HO
    isplitl [Ht]; · iexact Ht
    isplitl [Hx Hr]
    · iapply (Entails.of_eq (payload_bar m ρ (up c j) j).symm)
      unfold barPay; rw [dn_up]
      isplitl [Hx]; · iexact Hx
      iexact Hr
    iapply (records_reached m ρ K (up c j) none); iexact HR
  iintro HO
  rw [wp_ret]; imodintro
  iapply Hk; iexists W; iexact HO

theorem wp_barWait (c : Dev nD) (O : CellTallies nD τ sig Unit) (hO : Above 1 O) (Q : PUnit → sProp 𝕄) :
    iprop(records m ρ K ∗ levAts L lv ∗ cred (tallyAt (kcell c none) () 7) ∗ ow c O ∗ atPos ER (kcell c none) 0 ∅ 0
        ∗ ((ow c O ∗ semVal (kcell c none) 0 ∗ bigSep Finset.univ (barPay (F := F) c)) -∗ Q ⟨⟩))
      ⊢ WP c (semWaitWord barSem 7#32 : PR F PUnit) Q := by
  unfold WP
  simp only [semWaitWord, Prog.lift, Prog.bind_op, Prog.bind_ret, Prog.pure_eq_ret]
  unfold ow
  iintro ⟨#HR, #Hlev, Hc, ⟨%W, HO⟩, Hat, Hk⟩
  iapply (Rounds.wp_wait_rest_token 𝒱₀ ER (Rd m ρ) (c : Thread nD τ) none (κ := K (c, none))
      (wpE_semWait_eq 𝒱₀ (c : Thread nD τ) none Set.univ) (Set.mem_univ _) () (O := O) (W := W) (R := 0) (m := 0) (T := ∅)
      (by show _ = (Rd m ρ).expect (kcell c none) 0; rw [expect_bar]; decide)) $$ [Hc HO Hat]
  · isplitr; · iapply (records_inv m ρ K c none); iexact HR
    isplitl [Hc]; · iexact Hc
    isplitl [HO]; · iexact HO
    isplitr; · iapply (mayWait_above c (.reg barSem) 1 O (by show lvOf (dec (csem none)) ≤ 1; rw [dec_csem]; exact le_refl 1) hO); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (kcell c none))) $$ [Hat] with Hz
  · isplitr; · iapply (records_inv m ρ K c none); iexact HR
    iexact Hat
  rw [wp_ret]; imodintro
  iapply Hk
  isplitl [HO]; · iexists _; iexact HO
  isplitl [Hz]; · iexact Hz
  iexact Hp

/-! ## The waits on the exchange's copies -/

theorem wp_xwait (c : Dev nD) (a : Fin 4) (j : Fin 7) (b : ℕ) (O : CellTallies nD τ sig Unit) (hb : lvOf (some (some (a, j))) ≤ b) (hO : Above b O)
    {sp sp' : Space} {s s' : Shape} {e e' : EltTy} {srcw : Memref sig .tc sp' s' e'} {dstw : Memref sig .tc sp s e}
    {hsrc : srcw.view.WordExact} {hdst : dstw.view.WordExact} (hN : dstw.view.dmaCredit = N) (Q : PUnit → sProp 𝕄) :
    iprop(records m ρ K ∗ levAts L lv ∗ cred (tallyAt (kcell c (some (a, j))) () N) ∗ ow c O ∗ atPos ER (kcell c (some (a, j))) 0 ∅ 0
        ∗ ((ow c O ∗ semVal (kcell c (some (a, j))) 0 ∗ xferPay m ρ c a j) -∗ Q ⟨⟩))
      ⊢ WP c (Prog.lift (.waitDma2 (sem7 (arr7 a) j) srcw dstw hsrc hdst) : PR F PUnit) Q := by
  unfold WP Prog.lift ow
  iintro ⟨#HR, #Hlev, Hc, ⟨%W, HO⟩, Hat, Hk⟩
  iapply (Rounds.wp_wait_rest_token 𝒱₀ ER (Rd m ρ) (c : Thread nD τ) none (κ := K (c, some (a, j)))
      (wpE_waitDma2_eq 𝒱₀ (c : Thread nD τ) none Set.univ) (Set.mem_univ _) () (O := O) (W := W) (R := 0) (m := 0) (T := ∅)
      (by show 0 + dstw.view.dmaCredit = (Rd m ρ).expect (kcell c (some (a, j))) 0; rw [expect_x, Nat.zero_add, hN])) $$ [Hc HO Hat]
  · isplitr; · iapply (records_inv m ρ K c (some (a, j))); iexact HR
    isplitl [Hc]; · rw [hN]; iexact Hc
    isplitl [HO]; · iexact HO
    isplitr; · iapply (mayWait_above c (csem (some (a, j))) b O (by rw [dec_csem]; exact hb) hO); iexact Hlev
    iexact Hat
  iintro ⟨HO, Hat, -, Hpay⟩
  ihave Hp := (Entails.of_eq (rest_x m ρ c a j)) $$ Hpay
  imod (Rounds.cell_close ER (Rd m ρ) (Set.mem_univ (K (c, some (a, j)))) (fun h => h) (R := 0 + 1) (duties_later m ρ (kcell c (some (a, j))))) $$ [Hat] with Hz
  · isplitr; · iapply (records_inv m ρ K c (some (a, j))); iexact HR
    iexact Hat
  rw [wp_ret]; imodintro
  iapply Hk
  isplitl [HO]; · iexists _; iexact HO
  isplitl [Hz]; · iexact Hz
  iexact Hp

/-! ## The exchange's copies -/

theorem credit_xg (d : Dev nD) : (xgOwn d).view.dmaCredit = N := rfl
theorem credit_sb (j : Fin 7) : (bufSl sbM j).view.dmaCredit = N := rfl
theorem credit_rb (j : Fin 7) : (bufSl rbM j).view.dmaCredit = N := rfl

theorem wp_agSend0 (c n : Dev nD) (O' : CellTallies nD τ sig Unit) (j : Fin 7) (hn : n = up c j)
    {hsc : (xgOwn c : Memref sig (Dev.tc n : Thread nD τ).2.kind .vmem S2x128x512 .bf16).view.ref.isScScratch = false}
    {hsrc : (xgOwn c).view.WordExact} {hdst : (xgOwn c).view.WordExact}
    {hsem : DmaTarget.Typed .vmem (.dma (agR j)) (.remote (Dev.tc n : Thread nD τ) (xgOwn c) (.dma (agS j)) hsc)} (Q : PUnit → sProp 𝕄) :
    iprop(records m ρ K ∗ ow c (tsum j.val (fa c) + O')
        ∗ arrPts c cc0_scratch0 (xgSet c) (shr j.castSucc) (xgAll (xAt m ρ)) ∗ (∃ f, arrPts (F := F) (up c j) cc0_scratch0 (xgSet c) fullShare f)
        ∗ dutyTok ER (kcell c (some (0, j))) 0 0 ∗ dutyTok ER (kcell (up c j) (some (1, j))) 0 0
        ∗ ((ow c (tsum (j.val + 1) (fa c) + O') ∗ cred (tallyAt (kcell c (some (0, j))) () N)) -∗ Q ⟨⟩))
      ⊢ WP c (Prog.lift (.enqueueDma (xgOwn c) (.remote (Dev.tc n : Thread nD τ) (xgOwn c) (.dma (agS j)) hsc) (.dma (agR j)) hsrc hdst hsem) : PR F PUnit) Q := by
  subst hn
  unfold WP Prog.lift ow arrPts
  iintro ⟨#HR, ⟨%W, HO⟩, Hs, ⟨%fd, Hd⟩, Ht1, Ht2, Hk⟩
  iapply (Rounds.wp_send_pointsTo 𝒱₀ ER (Rd m ρ) (c : Thread nD τ) none (κ₁ := K (c, some (0, j))) (κ₂ := K (up c j, some (1, j)))
    (c' := (up c j : Thread nD τ)) (src := xgOwn c) (dst := xgOwn c) (r₁ := 0) (r₂ := 0) (d₁ := 0) (d₂ := 0) (fd := fd) (fs := xgAll (xAt m ρ))
    (by show 0 ∈ (Rd m ρ).duties (kcell c (some (0, j))) 0; rw [duties_x]; exact Finset.mem_singleton_self _)
    (by show 0 ∈ (Rd m ρ).duties (kcell (up c j) (some (1, j))) 0; rw [duties_x]; exact Finset.mem_singleton_self _)
    () () N rfl (amount_x m ρ c 0 j 0) (amount_x m ρ (up c j) 1 j 0) (O₀ := tsum j.val (fa c) + O') (tsum (j.val + 1) (fa c) + O')
    (by rw [tsum_step j (fa c)]; exact add_right_comm _ _ _) (W := W)
    ((Entails.of_eq rfl).trans (Entails.of_eq (payload_x m ρ c 0 j 0).symm))
    ((Entails.of_eq (by
      show _ = arrPts (up c j) cc0_scratch0 (xgSet (dn (up c j) j)) fullShare (xgAll (xAt m ρ))
      rw [dn_up]
      exact pointsTo_congr fun i hi => write_eq_of_read (xgOwn c).view fd (xgAll (xAt m ρ)) _ rfl i hi)).trans (Entails.of_eq (payload_x m ρ (up c j) 1 j 0).symm))) $$ [HO Hs Hd Ht1 Ht2]
  · isplitr; · iapply (records_inv m ρ K c (some (0, j))); iexact HR
    isplitr; · iapply (records_inv m ρ K (up c j) (some (1, j))); iexact HR
    isplitl [Hs]; · iexact Hs
    isplitl [Hd]; · iexact Hd
    isplitl [HO]; · iexact HO
    isplitl [Ht1]; · iexact Ht1
    isplitr; · iapply (records_reached m ρ K c (some (0, j))); iexact HR
    isplitl [Ht2]; · iexact Ht2
    iapply (records_reached m ρ K (up c j) (some (1, j))); iexact HR
  iintro ⟨Hc, HO⟩
  rw [wp_ret]; imodintro
  iapply Hk
  isplitl [HO]; · iexists W; iexact HO
  iexact Hc

theorem wp_agSend (c : Dev nD) (O' : CellTallies nD τ sig Unit) (j : Fin 7) (Q : PUnit → sProp 𝕄) :
    iprop(records m ρ K ∗ ow c (tsum j.val (fa c) + O')
        ∗ arrPts c cc0_scratch0 (xgSet c) (shr j.castSucc) (xgAll (xAt m ρ)) ∗ (∃ f, arrPts (F := F) (up c j) cc0_scratch0 (xgSet c) fullShare f)
        ∗ dutyTok ER (kcell c (some (0, j))) 0 0 ∗ dutyTok ER (kcell (up c j) (some (1, j))) 0 0
        ∗ ((ow c (tsum (j.val + 1) (fa c) + O') ∗ cred (tallyAt (kcell c (some (0, j))) () N)) -∗ Q ⟨⟩))
      ⊢ WP c (agSend (F := F) c j) Q :=
  wp_agSend0 m ρ K c _ O' j (ag_dev j c) Q

theorem wp_rsSend0 (c n : Dev nD) (O' : CellTallies nD τ sig Unit) (j : Fin 7) (hn : n = dn c j)
    {hsc : (bufSl rbM j : Memref sig (Dev.tc n : Thread nD τ).2.kind .vmem S2x128x512 .bf16).view.ref.isScScratch = false}
    {hsrc : (bufSl sbM j).view.WordExact} {hdst : (bufSl rbM j).view.WordExact}
    {hsem : DmaTarget.Typed .vmem (.dma (rsR j)) (.remote (Dev.tc n : Thread nD τ) (bufSl rbM j) (.dma (rsS j)) hsc)} (Q : PUnit → sProp 𝕄) :
    iprop(records m ρ K ∗ ow c (tsum j.val (fr c) + O')
        ∗ arrPts c cc0_scratch4 (sbSet j) fullShare (bufAll (sent m ρ c)) ∗ (∃ f, arrPts (F := F) (dn c j) cc0_scratch5 (rbSet j) fullShare f)
        ∗ dutyTok ER (kcell c (some (2, j))) 0 0 ∗ dutyTok ER (kcell (dn c j) (some (3, j))) 0 0
        ∗ ((ow c (tsum (j.val + 1) (fr c) + O') ∗ cred (tallyAt (kcell c (some (2, j))) () N)) -∗ Q ⟨⟩))
      ⊢ WP c (Prog.lift (.enqueueDma (bufSl sbM j) (.remote (Dev.tc n : Thread nD τ) (bufSl rbM j) (.dma (rsS j)) hsc) (.dma (rsR j)) hsrc hdst hsem) : PR F PUnit) Q := by
  subst hn
  unfold WP Prog.lift ow arrPts
  iintro ⟨#HR, ⟨%W, HO⟩, Hs, ⟨%fd, Hd⟩, Ht1, Ht2, Hk⟩
  iapply (Rounds.wp_send_pointsTo 𝒱₀ ER (Rd m ρ) (c : Thread nD τ) none (κ₁ := K (c, some (2, j))) (κ₂ := K (dn c j, some (3, j)))
    (c' := (dn c j : Thread nD τ)) (src := bufSl sbM j) (dst := bufSl rbM j) (r₁ := 0) (r₂ := 0) (d₁ := 0) (d₂ := 0) (fd := fd) (fs := bufAll (sent m ρ c))
    (by show 0 ∈ (Rd m ρ).duties (kcell c (some (2, j))) 0; rw [duties_x]; exact Finset.mem_singleton_self _)
    (by show 0 ∈ (Rd m ρ).duties (kcell (dn c j) (some (3, j))) 0; rw [duties_x]; exact Finset.mem_singleton_self _)
    () () N rfl (amount_x m ρ c 2 j 0) (amount_x m ρ (dn c j) 3 j 0) (O₀ := tsum j.val (fr c) + O') (tsum (j.val + 1) (fr c) + O')
    (by rw [tsum_step j (fr c)]; exact add_right_comm _ _ _) (W := W)
    ((Entails.of_eq rfl).trans (Entails.of_eq (payload_x m ρ c 2 j 0).symm))
    ((Entails.of_eq (by
      show _ = arrPts (dn c j) cc0_scratch5 (rbSet j) fullShare (bufAll (recvd m ρ (dn c j)))
      exact pointsTo_congr fun i hi => write_eq_of_read (bufSl rbM j).view fd (bufAll (recvd m ρ (dn c j))) _ (read_buf _ _ j (sent_dn m ρ c j)) i hi)).trans (Entails.of_eq (payload_x m ρ (dn c j) 3 j 0).symm))) $$ [HO Hs Hd Ht1 Ht2]
  · isplitr; · iapply (records_inv m ρ K c (some (2, j))); iexact HR
    isplitr; · iapply (records_inv m ρ K (dn c j) (some (3, j))); iexact HR
    isplitl [Hs]; · iexact Hs
    isplitl [Hd]; · iexact Hd
    isplitl [HO]; · iexact HO
    isplitl [Ht1]; · iexact Ht1
    isplitr; · iapply (records_reached m ρ K c (some (2, j))); iexact HR
    isplitl [Ht2]; · iexact Ht2
    iapply (records_reached m ρ K (dn c j) (some (3, j))); iexact HR
  iintro ⟨Hc, HO⟩
  rw [wp_ret]; imodintro
  iapply Hk
  isplitl [HO]; · iexists W; iexact HO
  iexact Hc

theorem wp_rsSend (c : Dev nD) (O' : CellTallies nD τ sig Unit) (j : Fin 7) (Q : PUnit → sProp 𝕄) :
    iprop(records m ρ K ∗ ow c (tsum j.val (fr c) + O')
        ∗ arrPts c cc0_scratch4 (sbSet j) fullShare (bufAll (sent m ρ c)) ∗ (∃ f, arrPts (F := F) (dn c j) cc0_scratch5 (rbSet j) fullShare f)
        ∗ dutyTok ER (kcell c (some (2, j))) 0 0 ∗ dutyTok ER (kcell (dn c j) (some (3, j))) 0 0
        ∗ ((ow c (tsum (j.val + 1) (fr c) + O') ∗ cred (tallyAt (kcell c (some (2, j))) () N)) -∗ Q ⟨⟩))
      ⊢ WP c (rsSend (F := F) c j) Q :=
  wp_rsSend0 m ρ K c _ O' j (rs_dev j c) Q

end Body

/-! ## The local copies of K and V -/

abbrev NK : ℕ := (kvSl kM 0).view.dmaCredit
theorem NK_pos : 0 < NK := View.dmaCredit_pos _ (by decide)
/-- The elements of head `h` of device `c` in K's and V's array. -/
abbrev srcSet (c : Dev nD) (h : Fin 8) : Finset S16x128x64x64.Idx := (kvSrc kH c h).view.set
abbrev ks (h : Fin 8) : DmaSem sig := sem16 ⟨h.val, by omega⟩
abbrev vs (h : Fin 8) : DmaSem sig := sem16 ⟨8 + h.val, by omega⟩
/-- What copy `h` of K leaves: the plane, and the source back. -/
def kDel (c : Dev nD) (h : Fin 8) : sProp 𝕄 :=
  iprop(arrPts c cc0_scratch1 (kSet h) fullShare (kvAll (kArr m c) c) ∗ arrPts c main_arg2 (srcSet c h) (leaf 3 fullShare h) (kArr m c))
def vDel (c : Dev nD) (h : Fin 8) : sProp 𝕄 :=
  iprop(arrPts c cc0_scratch2 (vSet h) fullShare (kvAll (vArr m c) c) ∗ arrPts c main_arg3 (srcSet c h) (leaf 3 fullShare h) (vArr m c))

theorem wp_kCopy (c : Dev nD) (h : Fin 8) (Q : PUnit → sProp 𝕄) :
    iprop(arrPts c main_arg2 (srcSet c h) (leaf 3 fullShare h) (kArr m c) ∗ (∃ f, arrPts (F := F) c cc0_scratch1 (kSet h) fullShare f)
        ∗ semVal ((c : Thread nD τ), .dma (ks h)) 0
        ∗ (Flight EC (c : Thread nD τ) (.dma (ks h)) () NK (kDel m c h) -∗ Q ⟨⟩))
      ⊢ WP c (kCopy (F := F) c h) Q := by
  unfold WP kCopy Prog.lift
  iintro ⟨Hs, ⟨%fd, Hd⟩, Hz, Hk⟩
  iapply (wp_dmaLocal EC 𝒱₀ (c : Thread nD τ) none (src := kvSrc kH c h) (dst := kvSl kM h) (fs := kArr m c) (fd := fd) (Sd := kSet h) (q := leaf 3 fullShare h)
    () NK rfl NK_pos (Finset.Subset.refl _)) $$ [Hs Hd Hz]
  · isplitl [Hs]; · unfold arrPts; iexact Hs
    isplitl [Hd]; · unfold arrPts; iexact Hd
    iexact Hz
  iintro Hf
  rw [wp_ret]; imodintro
  iapply Hk
  iapply (Flight_mono EC (c : Thread nD τ) (D' := kDel m c h) ?_) $$ Hf
  unfold kDel arrPts
  exact sep_mono_left (Entails.of_eq (pointsTo_congr fun i hi => write_eq_of_read (kvSl kM h).view fd (kvAll (kArr m c) c) _ (read_k (kArr m c) c h) i hi))

theorem wp_vCopy (c : Dev nD) (h : Fin 8) (Q : PUnit → sProp 𝕄) :
    iprop(arrPts c main_arg3 (srcSet c h) (leaf 3 fullShare h) (vArr m c) ∗ (∃ f, arrPts (F := F) c cc0_scratch2 (vSet h) fullShare f)
        ∗ semVal ((c : Thread nD τ), .dma (vs h)) 0
        ∗ (Flight EC (c : Thread nD τ) (.dma (vs h)) () NK (vDel m c h) -∗ Q ⟨⟩))
      ⊢ WP c (vCopy (F := F) c h) Q := by
  unfold WP vCopy Prog.lift
  iintro ⟨Hs, ⟨%fd, Hd⟩, Hz, Hk⟩
  iapply (wp_dmaLocal EC 𝒱₀ (c : Thread nD τ) none (src := kvSrc vH c h) (dst := kvSl vM h) (fs := vArr m c) (fd := fd) (Sd := vSet h) (q := leaf 3 fullShare h)
    () NK rfl NK_pos (Finset.Subset.refl _)) $$ [Hs Hd Hz]
  · isplitl [Hs]; · unfold arrPts; iexact Hs
    isplitl [Hd]; · unfold arrPts; iexact Hd
    iexact Hz
  iintro Hf
  rw [wp_ret]; imodintro
  iapply Hk
  iapply (Flight_mono EC (c : Thread nD τ) (D' := vDel m c h) ?_) $$ Hf
  unfold vDel arrPts
  exact sep_mono_left (Entails.of_eq (pointsTo_congr fun i hi => write_eq_of_read (kvSl vM h).view fd (kvAll (vArr m c) c) _ (read_v (vArr m c) c h) i hi))

/-- A wait on a local copy, at a semaphore of level 0. -/
theorem wp_lwait (c : Dev nD) (s : DmaSem sig) (O : CellTallies nD τ sig Unit) (hs : dec (.dma s) = none) (hO : Above 0 O) (D : sProp 𝕄)
    {sp sp' : Space} {sh sh' : Shape} {e e' : EltTy} {srcw : Memref sig .tc sp' sh' e'} {dstw : Memref sig .tc sp sh e}
    {hsrc : srcw.view.WordExact} {hdst : dstw.view.WordExact} (hN : dstw.view.dmaCredit = NK) (Q : PUnit → sProp 𝕄) :
    iprop(levAts L lv ∗ Flight EC (c : Thread nD τ) (.dma s) () NK D ∗ ow c O
        ∗ ((ow c O ∗ semVal ((c : Thread nD τ), .dma s) 0 ∗ D) -∗ Q ⟨⟩))
      ⊢ WP c (Prog.lift (.waitDma2 s srcw dstw hsrc hdst) : PR F PUnit) Q := by
  unfold WP Prog.lift ow
  iintro ⟨#Hlev, Hf, ⟨%W, HO⟩, Hk⟩
  iapply (wp_waitLocalO EC 𝒱₀ (c : Thread nD τ) none () hN (O := O) (W := W)) $$ [Hf HO]
  · isplitl [Hf]; · iexact Hf
    isplitl [HO]; · iexact HO
    iapply (mayWait_above c (.dma s) 0 O (by rw [hs]; exact le_refl 0) hO); iexact Hlev
  iintro ⟨HD, Hz, HO⟩
  rw [wp_ret]; imodintro
  iapply Hk
  isplitl [HO]; · iexists _; iexact HO
  isplitl [Hz]; · iexact Hz
  iexact HD

theorem dec_ks : ∀ h : Fin 8, dec (.dma (ks h)) = none := by decide +kernel
theorem dec_vs : ∀ h : Fin 8, dec (.dma (vs h)) = none := by decide +kernel

/-! ## Loads and stores -/

theorem hz3 : (![0, 0, 0] : Fin 3 → Nat) = fun _ => 0 := funext fun a => by fin_cases a <;> rfl
theorem hz2 : (![0, 0] : Fin 2 → Nat) = fun _ => 0 := funext fun a => by fin_cases a <;> rfl

abbrev rF : Rect S2x128x512 := Rect.unit (s := S2x128x512) ![0, 0, 0] S2x128x512.size inb_S2x128x512_S2x128x512_0_0_0
abbrev rW : Rect S512x512 := Rect.unit (s := S512x512) ![0, 0] S512x512.size inb_S512x512_S512x512_0_0

theorem read_xM (f : Vec F S2x128x512 .bf16) : xM.view.readAt (Elt F) rF.toLoadRect f = f := Memref.readAt_unit_zero (Elt F) cc0_stg0_0 hz3 _ f
theorem read_wqM (f : Vec F S512x512 .bf16) : wqM.view.readAt (Elt F) rW.toLoadRect f = f := Memref.readAt_unit_zero (Elt F) cc0_stg1_0 hz2 _ f
theorem read_woM (f : Vec F S512x512 .bf16) : woM.view.readAt (Elt F) rW.toLoadRect f = f := Memref.readAt_unit_zero (Elt F) cc0_stg2_0 hz2 _ f
theorem read_accM (f : Vec F S2x128x512 .f32) : accM.view.readAt (Elt F) rF.toLoadRect f = f := Memref.readAt_unit_zero (Elt F) cc0_scratch3 hz3 _ f
theorem write_accM (f w : Vec F S2x128x512 .f32) : (accM.access rF : View sig .tc _ _ _).write (Elt F) f w Finset.univ = w := Memref.write_access_unit_zero_univ (Elt F) cc0_scratch3 hz3 _ f w
theorem write_outM (f w : Vec F S2x128x512 .f32) : (outM.access rF : View sig .tc _ _ _).write (Elt F) f w Finset.univ = w := Memref.write_access_unit_zero_univ (Elt F) cc0_stg3_0 hz3 _ f w

theorem wp_loadX (c : Dev nD) (f : Vec F S2x128x512 .bf16) (Q : Vec F S2x128x512 .bf16 → sProp 𝕄) :
    iprop(arrPts c cc0_stg0_0 Finset.univ fullShare f ∗ (arrPts c cc0_stg0_0 Finset.univ fullShare f -∗ Q f)) ⊢ WP c (loadX (F := F)) Q := by
  unfold WP loadX Prog.lift arrPts
  iintro ⟨H, Hk⟩
  iapply (wp_load 𝒱₀ (c : Thread nD τ) none Set.univ (m := xM) (Finset.subset_univ _)) $$ H; iintro H
  rw [read_xM, wp_ret]; imodintro
  iapply Hk; iexact H

theorem wp_loadW (c : Dev nD) (M : Memref sig .tc .vmem S512x512 .bf16) (f : Buf (Elt F) (M.view.loc (c : Thread nD τ))) (Q : Vec F S512x512 .bf16 → sProp 𝕄) :
    iprop((M.view.loc (c : Thread nD τ) ↦{fullShare} f) ∗ ((M.view.loc (c : Thread nD τ) ↦{fullShare} f) -∗ Q (M.view.readAt (Elt F) rW.toLoadRect f))) ⊢ WP c (loadW (F := F) M) Q := by
  unfold WP loadW Prog.lift
  iintro ⟨H, Hk⟩
  iapply (wp_load 𝒱₀ (c : Thread nD τ) none Set.univ (m := M) (Finset.subset_univ _)) $$ H; iintro H
  rw [wp_ret]; imodintro
  iapply Hk; iexact H

theorem wp_loadF (c : Dev nD) (M : Memref sig .tc .vmem S2x128x512 .f32) (f : Buf (Elt F) (M.view.loc (c : Thread nD τ))) (Q : Vec F S2x128x512 .f32 → sProp 𝕄) :
    iprop((M.view.loc (c : Thread nD τ) ↦{fullShare} f) ∗ ((M.view.loc (c : Thread nD τ) ↦{fullShare} f) -∗ Q (M.view.readAt (Elt F) rF.toLoadRect f))) ⊢ WP c (loadF (F := F) M) Q := by
  unfold WP loadF Prog.lift
  iintro ⟨H, Hk⟩
  iapply (wp_load 𝒱₀ (c : Thread nD τ) none Set.univ (m := M) (Finset.subset_univ _)) $$ H; iintro H
  rw [wp_ret]; imodintro
  iapply Hk; iexact H

theorem wp_storeF (c : Dev nD) (M : Memref sig .tc .vmem S2x128x512 .f32) (f : Buf (Elt F) (M.view.loc (c : Thread nD τ))) (w : FVec F S2x128x512 .f32) (Q : PUnit → sProp 𝕄) :
    iprop((M.view.loc (c : Thread nD τ) ↦{fullShare} f)
        ∗ ((M.view.loc (c : Thread nD τ) ↦{fullShare} ((M.access rF).write (Elt F) f w Finset.univ)) -∗ Q ⟨⟩)) ⊢ WP c (storeF M w) Q := by
  unfold WP storeF Prog.lift
  iintro ⟨H, Hk⟩
  iapply (wp_store 𝒱₀ (c : Thread nD τ) none Set.univ (m := M) (r := rF) (Mk := Finset.univ) (Finset.subset_univ _)) $$ H; iintro H
  rw [wp_ret]; imodintro
  iapply Hk; iexact H

theorem access_xg (xs : Dev nD → Vec F S2x128x512 .bf16) (s : Dev nD) (off : Fin 3 → Nat) (h : ∀ a, off a + S2x128x512.size a ≤ S16x128x512.size a)
    (ho : off = ![2 * s.val, 0, 0]) : (xgM.access (Rect.unit (s := S16x128x512) off S2x128x512.size h)).read (Elt F) (xgAll xs) = xs s := load_xg xs s off h ho
theorem access_rb (zs : Fin 7 → Vec F S1x2x128x512 .bf16) (j : Fin 7) :
    (rbM.access (Rect.unit (s := S7x2x128x512) ![j.val, 0, 0, 0] S1x2x128x512.size (inb_buf j))).read (Elt F) (bufAll zs) = zs j := load_buf zs j

theorem wp_loadXg (c s : Dev nD) (off : Fin 3 → Nat) (h : ∀ a, off a + S2x128x512.size a ≤ S16x128x512.size a) (ho : off = ![2 * s.val, 0, 0])
    (q : PosShare TreeShare) (f : Vec F S16x128x512 .bf16) (Q : Vec F S2x128x512 .bf16 → sProp 𝕄) :
    iprop(arrPts c cc0_scratch0 (xgSet s) q f
        ∗ (arrPts c cc0_scratch0 (xgSet s) q f -∗ Q ((xgM.access (Rect.unit (s := S16x128x512) off S2x128x512.size h)).read (Elt F) f))) ⊢ WP c (loadXg (F := F) off h) Q := by
  unfold WP loadXg Prog.lift arrPts
  iintro ⟨H, Hk⟩
  iapply (wp_load_rect 𝒱₀ (c : Thread nD τ) none Set.univ (m := xgM) (r := Rect.unit (s := S16x128x512) off S2x128x512.size h) (S := xgSet s) (by rw [load_xg_set s off h ho])) $$ H; iintro H
  rw [wp_ret]; imodintro
  iapply Hk; iexact H

theorem ownVal_eq (x : Vec F S2x128x512 .bf16) : ownVal x = x := by
  unfold ownVal; simp only [shapeCast_self]

theorem wp_storeXg (c : Dev nD) (f : Vec F S16x128x512 .bf16) (xs : Dev nD → Vec F S2x128x512 .bf16) (Q : PUnit → sProp 𝕄) :
    iprop(arrPts c cc0_scratch0 (xgSet c) fullShare f
        ∗ (arrPts c cc0_scratch0 (xgSet c) fullShare (xgAll xs) -∗ Q ⟨⟩)) ⊢ WP c (storeXg c (xs c)) Q := by
  have hs : (xgM.access (Rect.unit (s := S16x128x512) (k0_off2 c) S2x128x512.size (k0_off2_inb c))).set = xgSet c := load_xg_set c _ _ (off2_eq c)
  have hi : ∀ i ∈ xgSet c, (xgM.access (Rect.unit (s := S16x128x512) (k0_off2 c) S2x128x512.size (k0_off2_inb c))).write (Elt F) f (ownVal (xs c)) Finset.univ i = xgAll xs i := by
    intro i hi
    exact write_eq_of_read (xgM.access (Rect.unit (s := S16x128x512) (k0_off2 c) S2x128x512.size (k0_off2_inb c))) f (xgAll xs) (ownVal (xs c))
      ((access_xg xs c _ (k0_off2_inb c) (off2_eq c)).trans (ownVal_eq (xs c)).symm) i (by rw [hs]; exact hi)
  have hw : arrPts c cc0_scratch0 (xgSet c) fullShare ((xgM.access (Rect.unit (s := S16x128x512) (k0_off2 c) S2x128x512.size (k0_off2_inb c))).write (Elt F) f (ownVal (xs c)) Finset.univ)
      = arrPts c cc0_scratch0 (xgSet c) fullShare (xgAll xs) := by unfold arrPts; exact pointsTo_congr hi
  unfold arrPts at hw
  unfold WP storeXg Prog.lift arrPts
  iintro ⟨H, Hk⟩
  iapply (wp_store 𝒱₀ (c : Thread nD τ) none Set.univ (m := xgM) (r := Rect.unit (s := S16x128x512) (k0_off2 c) S2x128x512.size (k0_off2_inb c)) (Mk := Finset.univ) (S := xgSet c) hs.subset) $$ H; iintro H
  rw [wp_ret]; imodintro
  iapply Hk
  iapply (Entails.of_eq hw); iexact H

theorem wp_loadSb (c : Dev nD) (j : Fin 7) (f : Vec F S7x2x128x512 .bf16) (Q : Vec F S1x2x128x512 .bf16 → sProp 𝕄) :
    iprop(arrPts c cc0_scratch4 (sbSet j) fullShare f ∗ (arrPts c cc0_scratch4 (sbSet j) fullShare f -∗ Q ((sbM.access (Rect.unit (s := S7x2x128x512) ![j.val, 0, 0, 0] S1x2x128x512.size (inb_buf j))).read (Elt F) f))) ⊢ WP c (loadBuf (F := F) sbM j) Q := by
  unfold WP loadBuf Prog.lift arrPts
  iintro ⟨H, Hk⟩
  iapply (wp_load_rect 𝒱₀ (c : Thread nD τ) none Set.univ (m := sbM) (r := Rect.unit (s := S7x2x128x512) ![j.val, 0, 0, 0] S1x2x128x512.size (inb_buf j)) (S := sbSet j) (by rw [sbuf_access_set])) $$ H; iintro H
  rw [wp_ret]; imodintro
  iapply Hk; iexact H

theorem wp_loadRb (c : Dev nD) (j : Fin 7) (zs : Fin 7 → Vec F S1x2x128x512 .bf16) (Q : Vec F S1x2x128x512 .bf16 → sProp 𝕄) :
    iprop(arrPts c cc0_scratch5 (rbSet j) fullShare (bufAll zs) ∗ (arrPts c cc0_scratch5 (rbSet j) fullShare (bufAll zs) -∗ Q (zs j))) ⊢ WP c (loadBuf (F := F) rbM j) Q := by
  unfold WP loadBuf Prog.lift arrPts
  iintro ⟨H, Hk⟩
  iapply (wp_load_rect 𝒱₀ (c : Thread nD τ) none Set.univ (m := rbM) (r := Rect.unit (s := S7x2x128x512) ![j.val, 0, 0, 0] S1x2x128x512.size (inb_buf j)) (S := rbSet j) (by rw [rbuf_access_set])) $$ H; iintro H
  rw [access_rb, wp_ret]; imodintro
  iapply Hk; iexact H

theorem wp_storeSb (c : Dev nD) (j : Fin 7) (f : Vec F S7x2x128x512 .bf16) (zs : Fin 7 → Vec F S1x2x128x512 .bf16) (Q : PUnit → sProp 𝕄) :
    iprop(arrPts c cc0_scratch4 (sbSet j) fullShare f ∗ (arrPts c cc0_scratch4 (sbSet j) fullShare (bufAll zs) -∗ Q ⟨⟩)) ⊢ WP c (storeSb j (zs j)) Q := by
  have hi : ∀ i ∈ sbSet j, (sbM.access (Rect.unit (s := S7x2x128x512) ![j.val, 0, 0, 0] S1x2x128x512.size (inb_buf j))).write (Elt F) f (zs j) Finset.univ i = bufAll zs i := by
    intro i hi
    exact write_eq_of_read (sbM.access (Rect.unit (s := S7x2x128x512) ![j.val, 0, 0, 0] S1x2x128x512.size (inb_buf j))) f (bufAll zs) (zs j)
      (load_sbuf zs j) i (by rw [sbuf_access_set]; exact hi)
  have hw : arrPts c cc0_scratch4 (sbSet j) fullShare ((sbM.access (Rect.unit (s := S7x2x128x512) ![j.val, 0, 0, 0] S1x2x128x512.size (inb_buf j))).write (Elt F) f (zs j) Finset.univ)
      = arrPts c cc0_scratch4 (sbSet j) fullShare (bufAll zs) := by unfold arrPts; exact pointsTo_congr hi
  unfold arrPts at hw
  unfold WP storeSb Prog.lift arrPts
  iintro ⟨H, Hk⟩
  iapply (wp_store 𝒱₀ (c : Thread nD τ) none Set.univ (m := sbM) (r := Rect.unit (s := S7x2x128x512) ![j.val, 0, 0, 0] S1x2x128x512.size (inb_buf j)) (Mk := Finset.univ) (S := sbSet j) (sbuf_access_set j).subset) $$ H; iintro H
  rw [wp_ret]; imodintro
  iapply Hk
  iapply (Entails.of_eq hw); iexact H

/-! ## A slot's attention -/

/-- The two on-chip buffers of device `c`'s heads, filled. -/
def kvPts (c : Dev nD) : sProp 𝕄 :=
  iprop(arrPts c cc0_scratch1 Finset.univ fullShare (kvAll (kArr m c) c) ∗ arrPts c cc0_scratch2 Finset.univ fullShare (kvAll (vArr m c) c))

theorem wp_head (c : Dev nD) (q : FVec F S256x512 .bf16) (off : Fin 3 → Nat) (ho : ∀ a, off a + S1x128x64.size a ≤ S16x128x64.size a) (bl : Fin 2) (h : Fin 8) (b : Fin 16)
    (e : off = ![b.val, 0, 0]) (Q : FVec F S128x64 .bf16 → sProp 𝕄) :
    iprop(kvPts m c ∗ (kvPts m c -∗ Q (headVal q bl h (kvRow (kArr m c) c h b) (kvRow (vArr m c) c h b)))) ⊢ WP c (headProg (F := F) q off ho bl h) Q := by
  unfold WP headProg loadKv kvPts arrPts
  simp only [Prog.lift, Prog.bind_op, Prog.bind_ret, Prog.pure_eq_ret]
  iintro ⟨⟨H1, H2⟩, Hk⟩
  iapply (wp_load 𝒱₀ (c : Thread nD τ) none Set.univ (m := kvSl kM h) (Finset.subset_univ _)) $$ H1; iintro H1
  iapply (wp_load 𝒱₀ (c : Thread nD τ) none Set.univ (m := kvSl vM h) (Finset.subset_univ _)) $$ H2; iintro H2
  rw [load_k (kArr m c) c h b off ho e, load_v (vArr m c) c h b off ho e, wp_ret]; imodintro
  iapply Hk
  isplitl [H1]; · iexact H1
  iexact H2

theorem rowVal_eta (g : Fin 8 → FVec F S128x64 .bf16) : rowVal ![g 0, g 1, g 2, g 3, g 4, g 5, g 6, g 7] = rowVal g := rfl

theorem wp_row (c : Dev nD) (q : FVec F S256x512 .bf16) (off : Fin 3 → Nat) (ho : ∀ a, off a + S1x128x64.size a ≤ S16x128x64.size a) (bl : Fin 2) (b : Fin 16)
    (e : off = ![b.val, 0, 0]) (Q : FVec F S128x512 .bf16 → sProp 𝕄) :
    iprop(kvPts m c ∗ (kvPts m c -∗ Q (rowVal fun h => headVal q bl h (kvRow (kArr m c) c h b) (kvRow (vArr m c) c h b)))) ⊢ WP c (rowProg (F := F) q off ho bl) Q := by
  unfold WP rowProg
  simp only [wp_bind]
  iintro ⟨H, Hk⟩
  iapply (wp_head m c q off ho bl 0 b e); isplitl [H]; · iexact H
  iintro H
  iapply (wp_head m c q off ho bl 1 b e); isplitl [H]; · iexact H
  iintro H
  iapply (wp_head m c q off ho bl 2 b e); isplitl [H]; · iexact H
  iintro H
  iapply (wp_head m c q off ho bl 3 b e); isplitl [H]; · iexact H
  iintro H
  iapply (wp_head m c q off ho bl 4 b e); isplitl [H]; · iexact H
  iintro H
  iapply (wp_head m c q off ho bl 5 b e); isplitl [H]; · iexact H
  iintro H
  iapply (wp_head m c q off ho bl 6 b e); isplitl [H]; · iexact H
  iintro H
  iapply (wp_head m c q off ho bl 7 b e); isplitl [H]; · iexact H
  iintro H
  rw [wp_pure]; imodintro
  have er := rowVal_eta fun h => headVal q bl h (kvRow (kArr m c) c h b) (kvRow (vArr m c) c h b)
  beta_reduce at er
  rw [er]
  iapply Hk; iexact H

theorem wp_slot (c s : Dev nD) (offx : Fin 3 → Nat) (hx : ∀ a, offx a + S2x128x512.size a ≤ S16x128x512.size a) (hox : offx = ![2 * s.val, 0, 0])
    (off : Fin 2 → Fin 3 → Nat) (ho : ∀ bl a, off bl a + S1x128x64.size a ≤ S16x128x64.size a) (hoff : ∀ bl : Fin 2, off bl = ![2 * s.val + bl.val, 0, 0])
    (q : PosShare TreeShare) (Q : FVec F S256x512 .f32 → sProp 𝕄) :
    iprop(arrPts c cc0_scratch0 (xgSet s) q (xgAll (xAt m ρ)) ∗ kvPts m c
        ∗ ((arrPts c cc0_scratch0 (xgSet s) q (xgAll (xAt m ρ)) ∗ kvPts m c) -∗ Q (slotZ m ρ c s)))
      ⊢ WP c (slotProg (F := F) (wqAt m ρ c) (woAt m ρ c) offx hx off ho) Q := by
  unfold WP slotProg slotZ rowAt
  simp only [wp_bind]
  iintro ⟨Hx, H, Hk⟩
  iapply (wp_loadXg c s offx hx hox q (xgAll (xAt m ρ))); isplitl [Hx]; · iexact Hx
  iintro Hx
  rw [access_xg (xAt m ρ) s offx hx hox]
  iapply (wp_row m c _ (off 0) (ho 0) 0 (rowNo s 0) (hoff 0)); isplitl [H]; · iexact H
  iintro H
  iapply (wp_row m c _ (off 1) (ho 1) 1 (rowNo s 1) (hoff 1)); isplitl [H]; · iexact H
  iintro H
  rw [wp_pure]; imodintro
  iapply Hk
  isplitl [Hx]; · iexact Hx
  iexact H

end Cert.KernelIdeal.My

end
-- ==== Proof.KI.Body.lean ====
/- The body: the steps' rules put together, from what a device holds at the start to what it holds at the end. -/
module

public import proofs.«01_k».proof.Proof.KI.Steps

@[expose] public section

noncomputable section

namespace Cert.KernelIdeal.My

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ShareLeaves
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of seven and eight -/

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A step that turns `T j` into `D j` and `R j` into `R (j + 1)`, at each of the seven in order. -/
theorem wp_each7 (c : Dev nD) (P : sProp 𝕄) [BI.Persistent P] (T D : Fin 7 → sProp 𝕄) (R : ℕ → sProp 𝕄) (f : Fin 7 → PR F PUnit)
    (h : ∀ (j : Fin 7) (Q : PUnit → sProp 𝕄), iprop(P ∗ T j ∗ R j.val ∗ ((D j ∗ R (j.val + 1)) -∗ Q ⟨⟩)) ⊢ WP c (f j) Q) (Q : PUnit → sProp 𝕄) :
    iprop(P ∗ bigSep Finset.univ T ∗ R 0 ∗ ((bigSep Finset.univ D ∗ R 7) -∗ Q ⟨⟩)) ⊢ WP c (each7 f) Q := by
  have h0 : ∀ Q : PUnit → sProp 𝕄, iprop(P ∗ T 0 ∗ R 0 ∗ ((D 0 ∗ R 1) -∗ Q ⟨⟩)) ⊢ WP c (f 0) Q := h 0
  have h1 : ∀ Q : PUnit → sProp 𝕄, iprop(P ∗ T 1 ∗ R 1 ∗ ((D 1 ∗ R 2) -∗ Q ⟨⟩)) ⊢ WP c (f 1) Q := h 1
  have h2 : ∀ Q : PUnit → sProp 𝕄, iprop(P ∗ T 2 ∗ R 2 ∗ ((D 2 ∗ R 3) -∗ Q ⟨⟩)) ⊢ WP c (f 2) Q := h 2
  have h3 : ∀ Q : PUnit → sProp 𝕄, iprop(P ∗ T 3 ∗ R 3 ∗ ((D 3 ∗ R 4) -∗ Q ⟨⟩)) ⊢ WP c (f 3) Q := h 3
  have h4 : ∀ Q : PUnit → sProp 𝕄, iprop(P ∗ T 4 ∗ R 4 ∗ ((D 4 ∗ R 5) -∗ Q ⟨⟩)) ⊢ WP c (f 4) Q := h 4
  have h5 : ∀ Q : PUnit → sProp 𝕄, iprop(P ∗ T 5 ∗ R 5 ∗ ((D 5 ∗ R 6) -∗ Q ⟨⟩)) ⊢ WP c (f 5) Q := h 5
  have h6 : ∀ Q : PUnit → sProp 𝕄, iprop(P ∗ T 6 ∗ R 6 ∗ ((D 6 ∗ R 7) -∗ Q ⟨⟩)) ⊢ WP c (f 6) Q := h 6
  unfold each7
  rw [seven T, seven D]
  simp only [WP] at h0 h1 h2 h3 h4 h5 h6
  simp only [WP, wp_bind]
  iintro ⟨#HP, ⟨T0, T1, T2, T3, T4, T5, T6⟩, HR, Hk⟩
  iapply h0; isplitr; · iexact HP
  isplitl [T0]; · iexact T0
  isplitl [HR]; · iexact HR
  iintro ⟨D0, HR⟩
  iapply h1; isplitr; · iexact HP
  isplitl [T1]; · iexact T1
  isplitl [HR]; · iexact HR
  iintro ⟨D1, HR⟩
  iapply h2; isplitr; · iexact HP
  isplitl [T2]; · iexact T2
  isplitl [HR]; · iexact HR
  iintro ⟨D2, HR⟩
  iapply h3; isplitr; · iexact HP
  isplitl [T3]; · iexact T3
  isplitl [HR]; · iexact HR
  iintro ⟨D3, HR⟩
  iapply h4; isplitr; · iexact HP
  isplitl [T4]; · iexact T4
  isplitl [HR]; · iexact HR
  iintro ⟨D4, HR⟩
  iapply h5; isplitr; · iexact HP
  isplitl [T5]; · iexact T5
  isplitl [HR]; · iexact HR
  iintro ⟨D5, HR⟩
  iapply h6; isplitr; · iexact HP
  isplitl [T6]; · iexact T6
  isplitl [HR]; · iexact HR
  iintro ⟨D6, HR⟩
  iapply Hk
  isplitr [HR]
  · isplitl [D0]; · iexact D0
    isplitl [D1]; · iexact D1
    isplitl [D2]; · iexact D2
    isplitl [D3]; · iexact D3
    isplitl [D4]; · iexact D4
    isplitl [D5]; · iexact D5
    iexact D6
  iexact HR

/-- The same at each of eight. -/
theorem wp_each8 (c : Dev nD) (P R : sProp 𝕄) [BI.Persistent P] (T D : Fin 8 → sProp 𝕄) (f : Fin 8 → PR F PUnit)
    (h : ∀ (j : Fin 8) (Q : PUnit → sProp 𝕄), iprop(P ∗ T j ∗ R ∗ ((D j ∗ R) -∗ Q ⟨⟩)) ⊢ WP c (f j) Q) (Q : PUnit → sProp 𝕄) :
    iprop(P ∗ bigSep Finset.univ T ∗ R ∗ ((bigSep Finset.univ D ∗ R) -∗ Q ⟨⟩)) ⊢ WP c (each8 f) Q := by
  unfold each8
  rw [eight T, eight D]
  simp only [WP, wp_bind]
  iintro ⟨#HP, ⟨T0, T1, T2, T3, T4, T5, T6, T7⟩, HR, Hk⟩
  iapply (h 0); isplitr; · iexact HP
  isplitl [T0]; · iexact T0
  isplitl [HR]; · iexact HR
  iintro ⟨D0, HR⟩
  iapply (h 1); isplitr; · iexact HP
  isplitl [T1]; · iexact T1
  isplitl [HR]; · iexact HR
  iintro ⟨D1, HR⟩
  iapply (h 2); isplitr; · iexact HP
  isplitl [T2]; · iexact T2
  isplitl [HR]; · iexact HR
  iintro ⟨D2, HR⟩
  iapply (h 3); isplitr; · iexact HP
  isplitl [T3]; · iexact T3
  isplitl [HR]; · iexact HR
  iintro ⟨D3, HR⟩
  iapply (h 4); isplitr; · iexact HP
  isplitl [T4]; · iexact T4
  isplitl [HR]; · iexact HR
  iintro ⟨D4, HR⟩
  iapply (h 5); isplitr; · iexact HP
  isplitl [T5]; · iexact T5
  isplitl [HR]; · iexact HR
  iintro ⟨D5, HR⟩
  iapply (h 6); isplitr; · iexact HP
  isplitl [T6]; · iexact T6
  isplitl [HR]; · iexact HR
  iintro ⟨D6, HR⟩
  iapply (h 7); isplitr; · iexact HP
  isplitl [T7]; · iexact T7
  isplitl [HR]; · iexact HR
  iintro ⟨D7, HR⟩
  iapply Hk
  isplitr [HR]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  iexact HR

/-- A family over the devices: one's own, and the seven before it, or the seven after it. -/
theorem devs_dn (c : Dev nD) (Φ : Dev nD → sProp 𝕄) : bigSep Finset.univ Φ = iprop(Φ c ∗ bigSep Finset.univ fun j : Fin 7 => Φ (dn c j)) := by
  rw [bigSep_univ_at Φ c, erase_dn, bigSep_map]; rfl
theorem devs_up (c : Dev nD) (Φ : Dev nD → sProp 𝕄) : bigSep Finset.univ Φ = iprop(Φ c ∗ bigSep Finset.univ fun j : Fin 7 => Φ (up c j)) := by
  rw [bigSep_univ_at Φ c, erase_up, bigSep_map]; rfl
theorem dn_to_up (c : Dev nD) (Φ : Dev nD → sProp 𝕄) : (bigSep Finset.univ fun j : Fin 7 => Φ (dn c j)) = bigSep Finset.univ fun j : Fin 7 => Φ (up c j) := by
  rw [bigSep_univ_equiv Fin.revPerm]; exact bigSep_congr fun j _ => by rw [Fin.revPerm_apply, dn_rev]
theorem erase_last : (Finset.univ : Finset (Fin 8)).erase 7 = Finset.univ.map Fin.castSuccEmb := by decide
/-- A family of eight: the first seven and the last. -/
theorem eight_last (Φ : Fin 8 → sProp 𝕄) : bigSep Finset.univ Φ = iprop(Φ 7 ∗ bigSep Finset.univ fun j : Fin 7 => Φ j.castSucc) := by
  rw [bigSep_univ_at Φ 7, erase_last, bigSep_map]; rfl

/-! ## Buffers cut along slots, planes, shares -/

theorem xg_blocks (c : Dev nD) (q : PosShare TreeShare) (f : Vec F S16x128x512 .bf16) :
    (arrPts c cc0_scratch0 Finset.univ q f : sProp 𝕄) = bigSep Finset.univ fun s : Dev nD => arrPts c cc0_scratch0 (xgSet s) q f :=
  Ring.pointsTo_blocks (ℓ := (c : Thread nD τ).loc cc0_scratch0) xgSet (fun b b' h => xg_disj b b' h) xg_cover f
theorem sb_blocks (c : Dev nD) (f : Vec F S7x2x128x512 .bf16) :
    (arrPts c cc0_scratch4 Finset.univ fullShare f : sProp 𝕄) = bigSep Finset.univ fun j : Fin 7 => arrPts c cc0_scratch4 (sbSet j) fullShare f :=
  Ring.pointsTo_blocks (ℓ := (c : Thread nD τ).loc cc0_scratch4) sbSet (fun b b' h => buf_disj b b' h) buf_cover f
theorem rb_blocks (c : Dev nD) (f : Vec F S7x2x128x512 .bf16) :
    (arrPts c cc0_scratch5 Finset.univ fullShare f : sProp 𝕄) = bigSep Finset.univ fun j : Fin 7 => arrPts c cc0_scratch5 (rbSet j) fullShare f :=
  Ring.pointsTo_blocks (ℓ := (c : Thread nD τ).loc cc0_scratch5) rbSet (fun b b' h => rbuf_disj b b' h) rbuf_cover f
theorem k_blocks (c : Dev nD) (f : Vec F S8x16x128x64 .f32) :
    (arrPts c cc0_scratch1 Finset.univ fullShare f : sProp 𝕄) = bigSep Finset.univ fun h : Fin 8 => arrPts c cc0_scratch1 (kSet h) fullShare f :=
  Ring.pointsTo_blocks (ℓ := (c : Thread nD τ).loc cc0_scratch1) kSet (fun b b' h => k_disj b b' h) k_cover f
theorem v_blocks (c : Dev nD) (f : Vec F S8x16x128x64 .f32) :
    (arrPts c cc0_scratch2 Finset.univ fullShare f : sProp 𝕄) = bigSep Finset.univ fun h : Fin 8 => arrPts c cc0_scratch2 (vSet h) fullShare f :=
  Ring.pointsTo_blocks (ℓ := (c : Thread nD τ).loc cc0_scratch2) vSet (fun b b' h => v_disj b b' h) v_cover f

theorem arr_shares (c : Dev nD) (b : Ref sig .tc) (S : Finset b.ty.Idx) (f : b.ty.Contents (Elt F)) :
    (arrPts c b S fullShare f : sProp 𝕄) = bigSep Finset.univ fun i : Fin 8 => arrPts c b S (shr i) f :=
  pointsTo_leaves (ℓ := (c : Thread nD τ).loc b) S f 3 fullShare
theorem arr_split (c : Dev nD) (b : Ref sig .tc) (S : Finset b.ty.Idx) (q : PosShare TreeShare) (f : b.ty.Contents (Elt F)) :
    (arrPts c b Finset.univ q f : sProp 𝕄) ⊣⊢ iprop(arrPts c b S q f ∗ arrPts c b (Finset.univ \ S) q f) :=
  pointsTo_split_subset (ℓ := (c : Thread nD τ).loc b) (Finset.subset_univ S)

/-- An array whole: a share of each head's elements, and of the others, for each of the eight copies. -/
theorem src_split (c : Dev nD) (b : Ref sig .tc) (S : Fin 8 → Finset b.ty.Idx) (f : b.ty.Contents (Elt F)) :
    (arrPts c b Finset.univ fullShare f : sProp 𝕄)
      ⊣⊢ iprop((bigSep Finset.univ fun h : Fin 8 => arrPts c b (S h) (shr h) f) ∗ bigSep Finset.univ fun h : Fin 8 => arrPts c b (Finset.univ \ S h) (shr h) f) := by
  rw [arr_shares, ← bigSep_sep']
  exact ⟨bigSep_mono fun h _ => (arr_split c b (S h) (shr h) f).1, bigSep_mono fun h _ => (arr_split c b (S h) (shr h) f).2⟩

/-- A family at any contents holds one at given contents. -/
theorem some_of {I : Type} [Fintype I] (c : Dev nD) (b : Ref sig .tc) (S : I → Finset b.ty.Idx) (f : b.ty.Contents (Elt F)) :
    (bigSep Finset.univ fun i => arrPts c b (S i) fullShare f : sProp 𝕄) ⊢ bigSep Finset.univ fun i => iprop(∃ f, arrPts (F := F) c b (S i) fullShare f) :=
  have h (i : I) : (arrPts c b (S i) fullShare f : sProp 𝕄) ⊢ iprop(∃ f, arrPts (F := F) c b (S i) fullShare f) := by iintro H; iexists f; iexact H
  bigSep_mono fun i _ => h i

/-! ## The phases -/

theorem join2 {I : Type} [Fintype I] (A B : I → sProp 𝕄) :
    iprop(bigSep Finset.univ A ∗ bigSep Finset.univ B) ⊢ bigSep Finset.univ fun i => iprop(A i ∗ B i) := Entails.of_eq (bigSep_sep' _ _ _).symm
theorem split2 {I : Type} [Fintype I] (A B : I → sProp 𝕄) :
    (bigSep Finset.univ fun i => iprop(A i ∗ B i)) ⊢ iprop(bigSep Finset.univ A ∗ bigSep Finset.univ B) := Entails.of_eq (bigSep_sep' _ _ _)

theorem xfer0 (c : Dev nD) (j : Fin 7) : xferPay m ρ c 0 j = arrPts c cc0_scratch0 (xgSet c) (shr j.castSucc) (xgAll (xAt m ρ)) := rfl
theorem xfer1 (c : Dev nD) (j : Fin 7) : xferPay m ρ c 1 j = arrPts c cc0_scratch0 (xgSet (dn c j)) fullShare (xgAll (xAt m ρ)) := rfl
theorem xfer2 (c : Dev nD) (j : Fin 7) : xferPay m ρ c 2 j = arrPts c cc0_scratch4 (sbSet j) fullShare (bufAll (sent m ρ c)) := rfl
theorem xfer3 (c : Dev nD) (j : Fin 7) : xferPay m ρ c 3 j = arrPts c cc0_scratch5 (rbSet j) fullShare (bufAll (recvd m ρ c)) := rfl

section Phases
variable (K : Dev nD × CI → ℕ) (c : Dev nD)

/-- The seven signals. -/
theorem wp_sigs (O' : CellTallies nD τ sig Unit) (Q : PUnit → sProp 𝕄) :
    iprop(records m ρ K ∗ (bigSep Finset.univ fun j : Fin 7 => dutyTok ER (kcell (up c j) none) 0 j)
        ∗ (bigSep Finset.univ fun j : Fin 7 => iprop(∃ f, arrPts (F := F) c cc0_scratch0 (xgSet (up c j)) fullShare f))
        ∗ (bigSep Finset.univ fun j : Fin 7 => iprop(∃ f, arrPts (F := F) c cc0_scratch5 (rbSet j) fullShare f))
        ∗ ow c (tsum 0 (fb c) + O') ∗ (ow c O' -∗ Q ⟨⟩))
      ⊢ WP c (each7 (sigStep (F := F) c)) Q := by
  iintro ⟨#HR, HA, HB, HC, HO, Hk⟩
  iapply (wp_each7 c (records m ρ K)
    (fun j => iprop(dutyTok ER (kcell (up c j) none) 0 j ∗ (∃ f, arrPts (F := F) c cc0_scratch0 (xgSet (up c j)) fullShare f) ∗ (∃ f, arrPts (F := F) c cc0_scratch5 (rbSet j) fullShare f)))
    (fun _ => iprop(emp)) (fun n => ow c (tsum n (fb c) + O')) (sigStep (F := F) c) (by
      intro j Q
      iintro ⟨#HR, ⟨Ht, Hx, Hr⟩, HO, Hk⟩
      iapply (wp_sig m ρ K c O' j Q)
      isplitr; · iexact HR
      isplitl [HO]; · iexact HO
      isplitl [Ht]; · iexact Ht
      isplitl [Hx]; · iexact Hx
      isplitl [Hr]; · iexact Hr
      iintro HO
      iapply Hk
      isplitr; · iempintro
      iexact HO) Q)
  isplitr; · iexact HR
  isplitl [HA HB HC]
  · iapply (join2 _ _); isplitl [HA]; · iexact HA
    iapply (join2 _ _); isplitl [HB]; · iexact HB
    iexact HC
  isplitl [HO]; · iexact HO
  iintro ⟨-, HO⟩
  iapply Hk
  rw [tsum_end, zero_add]
  iexact HO

/-- The seven gathering copies. -/
theorem wp_agSends (O' : CellTallies nD τ sig Unit) (Q : PUnit → sProp 𝕄) :
    iprop(records m ρ K ∗ (bigSep Finset.univ fun j : Fin 7 => arrPts c cc0_scratch0 (xgSet c) (shr j.castSucc) (xgAll (xAt m ρ)))
        ∗ (bigSep Finset.univ fun j : Fin 7 => iprop(∃ f, arrPts (F := F) (up c j) cc0_scratch0 (xgSet c) fullShare f))
        ∗ (bigSep Finset.univ fun j : Fin 7 => dutyTok ER (kcell c (some (0, j))) 0 0)
        ∗ (bigSep Finset.univ fun j : Fin 7 => dutyTok ER (kcell (up c j) (some (1, j))) 0 0)
        ∗ ow c (tsum 0 (fa c) + O')
        ∗ ((ow c O' ∗ bigSep Finset.univ fun j : Fin 7 => cred (tallyAt (kcell c (some (0, j))) () N)) -∗ Q ⟨⟩))
      ⊢ WP c (each7 (agSend (F := F) c)) Q := by
  iintro ⟨#HR, HA, HB, HC, HD, HO, Hk⟩
  iapply (wp_each7 c (records m ρ K)
    (fun j => iprop(arrPts c cc0_scratch0 (xgSet c) (shr j.castSucc) (xgAll (xAt m ρ)) ∗ (∃ f, arrPts (F := F) (up c j) cc0_scratch0 (xgSet c) fullShare f)
      ∗ dutyTok ER (kcell c (some (0, j))) 0 0 ∗ dutyTok ER (kcell (up c j) (some (1, j))) 0 0))
    (fun j => cred (tallyAt (kcell c (some (0, j))) () N)) (fun n => ow c (tsum n (fa c) + O')) (agSend (F := F) c) (by
      intro j Q
      iintro ⟨#HR, ⟨Hs, Hd, Ht1, Ht2⟩, HO, Hk⟩
      iapply (wp_agSend m ρ K c O' j Q)
      isplitr; · iexact HR
      isplitl [HO]; · iexact HO
      isplitl [Hs]; · iexact Hs
      isplitl [Hd]; · iexact Hd
      isplitl [Ht1]; · iexact Ht1
      isplitl [Ht2]; · iexact Ht2
      iintro ⟨HO, Hc⟩
      iapply Hk
      isplitl [Hc]; · iexact Hc
      iexact HO) Q)
  isplitr; · iexact HR
  isplitl [HA HB HC HD]
  · iapply (join2 _ _); isplitl [HA]; · iexact HA
    iapply (join2 _ _); isplitl [HB]; · iexact HB
    iapply (join2 _ _); isplitl [HC]; · iexact HC
    iexact HD
  isplitl [HO]; · iexact HO
  iintro ⟨Hc, HO⟩
  iapply Hk
  rw [tsum_end, zero_add]
  isplitl [HO]; · iexact HO
  iexact Hc

/-- The sixteen local copies begin. -/
theorem wp_kvCopies (Q : PUnit → sProp 𝕄) :
    iprop((bigSep Finset.univ fun h : Fin 8 => arrPts c main_arg2 (srcSet c h) (shr h) (kArr m c))
        ∗ (bigSep Finset.univ fun h : Fin 8 => arrPts c main_arg3 (srcSet c h) (shr h) (vArr m c))
        ∗ (bigSep Finset.univ fun h : Fin 8 => iprop(∃ f, arrPts (F := F) c cc0_scratch1 (kSet h) fullShare f))
        ∗ (bigSep Finset.univ fun h : Fin 8 => iprop(∃ f, arrPts (F := F) c cc0_scratch2 (vSet h) fullShare f))
        ∗ (bigSep Finset.univ fun h : Fin 8 => semVal ((c : Thread nD τ), .dma (ks h)) 0)
        ∗ (bigSep Finset.univ fun h : Fin 8 => semVal ((c : Thread nD τ), .dma (vs h)) 0)
        ∗ ((bigSep Finset.univ fun h : Fin 8 => iprop(Flight EC (c : Thread nD τ) (.dma (ks h)) () NK (kDel m c h) ∗ Flight EC (c : Thread nD τ) (.dma (vs h)) () NK (vDel m c h))) -∗ Q ⟨⟩))
      ⊢ WP c (each8 (fun h => do kCopy (F := F) c h; vCopy c h)) Q := by
  iintro ⟨HA, HB, HC, HD, HE, HG, Hk⟩
  iapply (wp_each8 c iprop(emp) iprop(emp)
    (fun h => iprop(arrPts c main_arg2 (srcSet c h) (shr h) (kArr m c) ∗ arrPts c main_arg3 (srcSet c h) (shr h) (vArr m c)
      ∗ (∃ f, arrPts (F := F) c cc0_scratch1 (kSet h) fullShare f) ∗ (∃ f, arrPts (F := F) c cc0_scratch2 (vSet h) fullShare f)
      ∗ semVal ((c : Thread nD τ), .dma (ks h)) 0 ∗ semVal ((c : Thread nD τ), .dma (vs h)) 0))
    (fun h => iprop(Flight EC (c : Thread nD τ) (.dma (ks h)) () NK (kDel m c h) ∗ Flight EC (c : Thread nD τ) (.dma (vs h)) () NK (vDel m c h)))
    (fun h => do kCopy (F := F) c h; vCopy c h) (by
      intro h Q
      iintro ⟨-, ⟨H2, H3, Hk, Hv, Hsk, Hsv⟩, -, HQ⟩
      simp only [WP, wp_bind]
      iapply (wp_kCopy m c h)
      isplitl [H2]; · iexact H2
      isplitl [Hk]; · iexact Hk
      isplitl [Hsk]; · iexact Hsk
      iintro Hfk
      iapply (wp_vCopy m c h)
      isplitl [H3]; · iexact H3
      isplitl [Hv]; · iexact Hv
      isplitl [Hsv]; · iexact Hsv
      iintro Hfv
      iapply HQ
      isplitl [Hfk Hfv]
      · isplitl [Hfk]; · iexact Hfk
        iexact Hfv
      iempintro) Q)
  isplitr; · iempintro
  isplitl [HA HB HC HD HE HG]
  · iapply (join2 _ _); isplitl [HA]; · iexact HA
    iapply (join2 _ _); isplitl [HB]; · iexact HB
    iapply (join2 _ _); isplitl [HC]; · iexact HC
    iapply (join2 _ _); isplitl [HD]; · iexact HD
    iapply (join2 _ _); isplitl [HE]; · iexact HE
    iexact HG
  isplitr; · iempintro
  iintro ⟨H, -⟩
  iapply Hk
  iexact H

/-- and end. -/
theorem wp_kvWaits (O : CellTallies nD τ sig Unit) (hO : Above 0 O) (Q : PUnit → sProp 𝕄) :
    iprop(levAts L lv ∗ (bigSep Finset.univ fun h : Fin 8 => iprop(Flight EC (c : Thread nD τ) (.dma (ks h)) () NK (kDel m c h) ∗ Flight EC (c : Thread nD τ) (.dma (vs h)) () NK (vDel m c h)))
        ∗ ow c O
        ∗ ((ow c O ∗ (bigSep Finset.univ fun h : Fin 8 => semVal ((c : Thread nD τ), .dma (ks h)) 0) ∗ (bigSep Finset.univ fun h : Fin 8 => semVal ((c : Thread nD τ), .dma (vs h)) 0)
            ∗ (bigSep Finset.univ fun h : Fin 8 => kDel m c h) ∗ (bigSep Finset.univ fun h : Fin 8 => vDel m c h)) -∗ Q ⟨⟩))
      ⊢ WP c (each8 (fun h => do kWait (F := F) c h; vWait c h)) Q := by
  iintro ⟨#Hlev, HA, HO, Hk⟩
  iapply (wp_each8 c (levAts L lv) (ow c O)
    (fun h => iprop(Flight EC (c : Thread nD τ) (.dma (ks h)) () NK (kDel m c h) ∗ Flight EC (c : Thread nD τ) (.dma (vs h)) () NK (vDel m c h)))
    (fun h => iprop(semVal ((c : Thread nD τ), .dma (ks h)) 0 ∗ semVal ((c : Thread nD τ), .dma (vs h)) 0 ∗ kDel m c h ∗ vDel m c h))
    (fun h => do kWait (F := F) c h; vWait c h) (by
      intro h Q
      iintro ⟨#Hlev, ⟨Hfk, Hfv⟩, HO, HQ⟩
      simp only [WP, wp_bind]
      iapply (wp_lwait c (ks h) O (dec_ks h) hO (kDel m c h) (dstw := kvSl kM h) rfl)
      isplitr; · iexact Hlev
      isplitl [Hfk]; · iexact Hfk
      isplitl [HO]; · iexact HO
      iintro ⟨HO, Hzk, Hdk⟩
      iapply (wp_lwait c (vs h) O (dec_vs h) hO (vDel m c h) (dstw := kvSl vM h) rfl)
      isplitr; · iexact Hlev
      isplitl [Hfv]; · iexact Hfv
      isplitl [HO]; · iexact HO
      iintro ⟨HO, Hzv, Hdv⟩
      iapply HQ
      isplitr [HO]
      · isplitl [Hzk]; · iexact Hzk
        isplitl [Hzv]; · iexact Hzv
        isplitl [Hdk]; · iexact Hdk
        iexact Hdv
      iexact HO) Q)
  isplitr; · iexact Hlev
  isplitl [HA]; · iexact HA
  isplitl [HO]; · iexact HO
  iintro ⟨H, HO⟩
  iapply Hk
  isplitl [HO]; · iexact HO
  ihave H1 := (split2 _ _) $$ H
  icases H1 with ⟨Hzk, H⟩
  ihave H2 := (split2 _ _) $$ H
  icases H2 with ⟨Hzv, H⟩
  ihave H3 := (split2 _ _) $$ H
  icases H3 with ⟨Hdk, Hdv⟩
  isplitl [Hzk]; · iexact Hzk
  isplitl [Hzv]; · iexact Hzv
  isplitl [Hdk]; · iexact Hdk
  iexact Hdv

/-- One peer's slot. -/
theorem wp_peer (j : Fin 7) (Q : PUnit → sProp 𝕄) :
    iprop((records m ρ K ∗ levAts L lv)
        ∗ (cred (tallyAt (kcell c (some (1, j))) () N) ∗ atPos ER (kcell c (some (1, j))) 0 ∅ 0 ∗ (∃ f, arrPts (F := F) c cc0_scratch4 (sbSet j) fullShare f)
          ∗ (∃ f, arrPts (F := F) (dn c j) cc0_scratch5 (rbSet j) fullShare f)
          ∗ dutyTok ER (kcell c (some (2, j))) 0 0 ∗ dutyTok ER (kcell (dn c j) (some (3, j))) 0 0)
        ∗ (ow c (tsum j.val (fr c)) ∗ kvPts m c)
        ∗ (((semVal (kcell c (some (1, j))) 0 ∗ arrPts c cc0_scratch0 (xgSet (dn c j)) fullShare (xgAll (xAt m ρ)) ∗ cred (tallyAt (kcell c (some (2, j))) () N))
            ∗ (ow c (tsum (j.val + 1) (fr c)) ∗ kvPts m c)) -∗ Q ⟨⟩))
      ⊢ WP c (peerStep (F := F) c (wqAt m ρ c) (woAt m ρ c) j) Q := by
  unfold peerStep
  simp only [WP, wp_bind]
  iintro ⟨⟨#HR, #Hlev⟩, ⟨Hc, Hat, ⟨%f4, H4⟩, H5, Ht1, Ht2⟩, ⟨HO, Hkv⟩, Hk⟩
  iapply (wp_xwait m ρ K c 1 j 2 (tsum j.val (fr c)) (le_refl 2) (above_r c j.val) (dstw := xgOwn c) (credit_xg c))
  isplitr; · iexact HR
  isplitr; · iexact Hlev
  isplitl [Hc]; · iexact Hc
  isplitl [HO]; · iexact HO
  isplitl [Hat]; · iexact Hat
  iintro ⟨HO, Hz, Hx⟩
  ihave Hx := (Entails.of_eq (xfer1 m ρ c j)) $$ Hx
  iapply (wp_slot m ρ c (dn c j) _ _ (off5_eq c j) _ _ (off6_eq c j) fullShare)
  isplitl [Hx]; · iexact Hx
  isplitl [Hkv]; · iexact Hkv
  iintro ⟨Hx, Hkv⟩
  iapply (wp_loadSb c j f4)
  isplitl [H4]; · iexact H4
  iintro H4
  iapply (wp_storeSb c j f4 (sent m ρ c))
  isplitl [H4]; · iexact H4
  iintro H4
  iapply (wp_rsSend m ρ K c 0 j)
  isplitr; · iexact HR
  isplitl [HO]; · rw [add_zero]; iexact HO
  isplitl [H4]; · iexact H4
  isplitl [H5]; · iexact H5
  isplitl [Ht1]; · iexact Ht1
  isplitl [Ht2]; · iexact Ht2
  rw [add_zero]
  iintro ⟨HO, Hc⟩
  iapply Hk
  isplitl [Hz Hx Hc]
  · isplitl [Hz]; · iexact Hz
    isplitl [Hx]; · iexact Hx
    iexact Hc
  isplitl [HO]; · iexact HO
  iexact Hkv

/-- The seven peers' slots. -/
theorem wp_peers (Q : PUnit → sProp 𝕄) :
    iprop(records m ρ K ∗ levAts L lv
        ∗ (bigSep Finset.univ fun j : Fin 7 => cred (tallyAt (kcell c (some (1, j))) () N))
        ∗ (bigSep Finset.univ fun j : Fin 7 => atPos ER (kcell c (some (1, j))) 0 ∅ 0)
        ∗ (bigSep Finset.univ fun j : Fin 7 => iprop(∃ f, arrPts (F := F) c cc0_scratch4 (sbSet j) fullShare f))
        ∗ (bigSep Finset.univ fun j : Fin 7 => iprop(∃ f, arrPts (F := F) (dn c j) cc0_scratch5 (rbSet j) fullShare f))
        ∗ (bigSep Finset.univ fun j : Fin 7 => dutyTok ER (kcell c (some (2, j))) 0 0)
        ∗ (bigSep Finset.univ fun j : Fin 7 => dutyTok ER (kcell (dn c j) (some (3, j))) 0 0)
        ∗ ow c (tsum 0 (fr c)) ∗ kvPts m c
        ∗ ((ow c 0 ∗ kvPts m c ∗ (bigSep Finset.univ fun j : Fin 7 => semVal (kcell c (some (1, j))) 0)
            ∗ (bigSep Finset.univ fun j : Fin 7 => arrPts c cc0_scratch0 (xgSet (dn c j)) fullShare (xgAll (xAt m ρ)))
            ∗ (bigSep Finset.univ fun j : Fin 7 => cred (tallyAt (kcell c (some (2, j))) () N))) -∗ Q ⟨⟩))
      ⊢ WP c (each7 (peerStep (F := F) c (wqAt m ρ c) (woAt m ρ c))) Q := by
  iintro ⟨#HR, #Hlev, HA, HB, HC, HD, HE, HG, HO, Hkv, Hk⟩
  iapply (wp_each7 c iprop(records m ρ K ∗ levAts L lv) _ _ (fun n => iprop(ow c (tsum n (fr c)) ∗ kvPts m c)) _ (fun j Q => wp_peer m ρ K c j Q) Q)
  isplitr; · isplitr; · iexact HR
             iexact Hlev
  isplitl [HA HB HC HD HE HG]
  · iapply (join2 _ _); isplitl [HA]; · iexact HA
    iapply (join2 _ _); isplitl [HB]; · iexact HB
    iapply (join2 _ _); isplitl [HC]; · iexact HC
    iapply (join2 _ _); isplitl [HD]; · iexact HD
    iapply (join2 _ _); isplitl [HE]; · iexact HE
    iexact HG
  isplitl [HO Hkv]
  · isplitl [HO]; · iexact HO
    iexact Hkv
  iintro ⟨H, HO, Hkv⟩
  iapply Hk
  rw [tsum_end]
  isplitl [HO]; · iexact HO
  isplitl [Hkv]; · iexact Hkv
  ihave H1 := (split2 _ _) $$ H
  icases H1 with ⟨Hz, H⟩
  ihave H2 := (split2 _ _) $$ H
  icases H2 with ⟨Hx, Hc⟩
  isplitl [Hz]; · iexact Hz
  isplitl [Hx]; · iexact Hx
  iexact Hc

/-- One received block. -/
theorem wp_recv (a : Vec F S2x128x512 .f32) (j : Fin 7) (Q : FVec F S2x128x512 .f32 → sProp 𝕄) :
    iprop(records m ρ K ∗ levAts L lv ∗ cred (tallyAt (kcell c (some (3, j))) () N) ∗ atPos ER (kcell c (some (3, j))) 0 ∅ 0 ∗ ow c 0
        ∗ ((ow c 0 ∗ semVal (kcell c (some (3, j))) 0 ∗ arrPts c cc0_scratch5 (rbSet j) fullShare (bufAll (recvd m ρ c))) -∗ Q (addVal a (recvd m ρ c j))))
      ⊢ WP c (recvStep (F := F) a j) Q := by
  unfold recvStep
  simp only [WP, wp_bind]
  iintro ⟨#HR, #Hlev, Hc, Hat, HO, Hk⟩
  iapply (wp_xwait m ρ K c 3 j 3 0 (le_refl 3) (above_zero 3) (dstw := bufSl rbM j) (credit_rb j))
  isplitr; · iexact HR
  isplitr; · iexact Hlev
  isplitl [Hc]; · iexact Hc
  isplitl [HO]; · iexact HO
  isplitl [Hat]; · iexact Hat
  iintro ⟨HO, Hz, Hx⟩
  ihave Hx := (Entails.of_eq (xfer3 m ρ c j)) $$ Hx
  iapply (wp_loadRb c j (recvd m ρ c))
  isplitl [Hx]; · iexact Hx
  iintro Hx
  rw [wp_pure]; imodintro
  iapply Hk
  isplitl [HO]; · iexact HO
  isplitl [Hz]; · iexact Hz
  iexact Hx

/-- The gathering copies' departures. -/
theorem wp_agDone (Q : PUnit → sProp 𝕄) :
    iprop(records m ρ K ∗ levAts L lv
        ∗ (bigSep Finset.univ fun j : Fin 7 => cred (tallyAt (kcell c (some (0, j))) () N))
        ∗ (bigSep Finset.univ fun j : Fin 7 => atPos ER (kcell c (some (0, j))) 0 ∅ 0)
        ∗ ow c 0
        ∗ ((ow c 0 ∗ (bigSep Finset.univ fun j : Fin 7 => semVal (kcell c (some (0, j))) 0)
            ∗ (bigSep Finset.univ fun j : Fin 7 => arrPts c cc0_scratch0 (xgSet c) (shr j.castSucc) (xgAll (xAt m ρ)))) -∗ Q ⟨⟩))
      ⊢ WP c (each7 (fun j => agWait (F := F) c (agS j))) Q := by
  iintro ⟨#HR, #Hlev, HA, HB, HO, Hk⟩
  iapply (wp_each7 c iprop(records m ρ K ∗ levAts L lv)
    (fun j => iprop(cred (tallyAt (kcell c (some (0, j))) () N) ∗ atPos ER (kcell c (some (0, j))) 0 ∅ 0))
    (fun j => iprop(semVal (kcell c (some (0, j))) 0 ∗ arrPts c cc0_scratch0 (xgSet c) (shr j.castSucc) (xgAll (xAt m ρ)))) (fun _ => ow c 0) _ (by
      intro j Q
      iintro ⟨⟨#HR, #Hlev⟩, ⟨Hc, Hat⟩, HO, Hk⟩
      iapply (wp_xwait m ρ K c 0 j 0 0 (le_refl 0) (above_zero 0) (dstw := xgOwn c) (credit_xg c))
      isplitr; · iexact HR
      isplitr; · iexact Hlev
      isplitl [Hc]; · iexact Hc
      isplitl [HO]; · iexact HO
      isplitl [Hat]; · iexact Hat
      iintro ⟨HO, Hz, Hx⟩
      ihave Hx := (Entails.of_eq (xfer0 m ρ c j)) $$ Hx
      iapply Hk
      isplitl [Hz Hx]
      · isplitl [Hz]; · iexact Hz
        iexact Hx
      iexact HO) Q)
  isplitr; · isplitr; · iexact HR
             iexact Hlev
  isplitl [HA HB]
  · iapply (join2 _ _); isplitl [HA]; · iexact HA
    iexact HB
  isplitl [HO]; · iexact HO
  iintro ⟨H, HO⟩
  iapply Hk
  isplitl [HO]; · iexact HO
  ihave H1 := (split2 _ _) $$ H
  icases H1 with ⟨Hz, H⟩
  isplitl [Hz]; · iexact Hz
  iexact H

/-- The scattering copies' departures. -/
theorem wp_rsDone (Q : PUnit → sProp 𝕄) :
    iprop(records m ρ K ∗ levAts L lv
        ∗ (bigSep Finset.univ fun j : Fin 7 => cred (tallyAt (kcell c (some (2, j))) () N))
        ∗ (bigSep Finset.univ fun j : Fin 7 => atPos ER (kcell c (some (2, j))) 0 ∅ 0)
        ∗ ow c 0
        ∗ ((ow c 0 ∗ (bigSep Finset.univ fun j : Fin 7 => semVal (kcell c (some (2, j))) 0)
            ∗ (bigSep Finset.univ fun j : Fin 7 => arrPts c cc0_scratch4 (sbSet j) fullShare (bufAll (sent m ρ c)))) -∗ Q ⟨⟩))
      ⊢ WP c (each7 (rsWaitS (F := F))) Q := by
  iintro ⟨#HR, #Hlev, HA, HB, HO, Hk⟩
  iapply (wp_each7 c iprop(records m ρ K ∗ levAts L lv)
    (fun j => iprop(cred (tallyAt (kcell c (some (2, j))) () N) ∗ atPos ER (kcell c (some (2, j))) 0 ∅ 0))
    (fun j => iprop(semVal (kcell c (some (2, j))) 0 ∗ arrPts c cc0_scratch4 (sbSet j) fullShare (bufAll (sent m ρ c)))) (fun _ => ow c 0) _ (by
      intro j Q
      iintro ⟨⟨#HR, #Hlev⟩, ⟨Hc, Hat⟩, HO, Hk⟩
      iapply (wp_xwait m ρ K c 2 j 0 0 (le_refl 0) (above_zero 0) (dstw := bufSl sbM j) (credit_sb j))
      isplitr; · iexact HR
      isplitr; · iexact Hlev
      isplitl [Hc]; · iexact Hc
      isplitl [HO]; · iexact HO
      isplitl [Hat]; · iexact Hat
      iintro ⟨HO, Hz, Hx⟩
      ihave Hx := (Entails.of_eq (xfer2 m ρ c j)) $$ Hx
      iapply Hk
      isplitl [Hz Hx]
      · isplitl [Hz]; · iexact Hz
        iexact Hx
      iexact HO) Q)
  isplitr; · isplitr; · iexact HR
             iexact Hlev
  isplitl [HA HB]
  · iapply (join2 _ _); isplitl [HA]; · iexact HA
    iexact HB
  isplitl [HO]; · iexact HO
  iintro ⟨H, HO⟩
  iapply Hk
  isplitl [HO]; · iexact HO
  ihave H1 := (split2 _ _) $$ H
  icases H1 with ⟨Hz, H⟩
  isplitl [Hz]; · iexact Hz
  iexact H

/-- The seven received blocks, added to `a`. -/
def sumAll (c : Dev nD) (a : Vec F S2x128x512 .f32) : FVec F S2x128x512 .f32 :=
  addVal (addVal (addVal (addVal (addVal (addVal (addVal a (recvd m ρ c 0)) (recvd m ρ c 1)) (recvd m ρ c 2)) (recvd m ρ c 3)) (recvd m ρ c 4)) (recvd m ρ c 5)) (recvd m ρ c 6)

/-- The seven receptions in a row. -/
def recvAll (a : Vec F S2x128x512 .f32) : PR F (FVec F S2x128x512 .f32) := do
  let a0 ← recvStep a 0
  let a1 ← recvStep a0 1
  let a2 ← recvStep a1 2
  let a3 ← recvStep a2 3
  let a4 ← recvStep a3 4
  let a5 ← recvStep a4 5
  recvStep a5 6

theorem wp_recvAll (a : Vec F S2x128x512 .f32) (Q : FVec F S2x128x512 .f32 → sProp 𝕄) :
    iprop(records m ρ K ∗ levAts L lv
        ∗ (bigSep Finset.univ fun j : Fin 7 => cred (tallyAt (kcell c (some (3, j))) () N))
        ∗ (bigSep Finset.univ fun j : Fin 7 => atPos ER (kcell c (some (3, j))) 0 ∅ 0)
        ∗ ow c 0
        ∗ ((ow c 0 ∗ (bigSep Finset.univ fun j : Fin 7 => semVal (kcell c (some (3, j))) 0)
            ∗ (bigSep Finset.univ fun j : Fin 7 => arrPts c cc0_scratch5 (rbSet j) fullShare (bufAll (recvd m ρ c)))) -∗ Q (sumAll m ρ c a)))
      ⊢ WP c (recvAll (F := F) a) Q := by
  unfold recvAll sumAll
  rw [seven, seven, seven, seven]
  simp only [WP, wp_bind]
  iintro ⟨#HR, #Hlev, ⟨C0, C1, C2, C3, C4, C5, C6⟩, ⟨A0, A1, A2, A3, A4, A5, A6⟩, HO, Hk⟩
  iapply (wp_recv m ρ K c _ 0)
  isplitr; · iexact HR
  isplitr; · iexact Hlev
  isplitl [C0]; · iexact C0
  isplitl [A0]; · iexact A0
  isplitl [HO]; · iexact HO
  iintro ⟨HO, Z0, X0⟩
  iapply (wp_recv m ρ K c _ 1)
  isplitr; · iexact HR
  isplitr; · iexact Hlev
  isplitl [C1]; · iexact C1
  isplitl [A1]; · iexact A1
  isplitl [HO]; · iexact HO
  iintro ⟨HO, Z1, X1⟩
  iapply (wp_recv m ρ K c _ 2)
  isplitr; · iexact HR
  isplitr; · iexact Hlev
  isplitl [C2]; · iexact C2
  isplitl [A2]; · iexact A2
  isplitl [HO]; · iexact HO
  iintro ⟨HO, Z2, X2⟩
  iapply (wp_recv m ρ K c _ 3)
  isplitr; · iexact HR
  isplitr; · iexact Hlev
  isplitl [C3]; · iexact C3
  isplitl [A3]; · iexact A3
  isplitl [HO]; · iexact HO
  iintro ⟨HO, Z3, X3⟩
  iapply (wp_recv m ρ K c _ 4)
  isplitr; · iexact HR
  isplitr; · iexact Hlev
  isplitl [C4]; · iexact C4
  isplitl [A4]; · iexact A4
  isplitl [HO]; · iexact HO
  iintro ⟨HO, Z4, X4⟩
  iapply (wp_recv m ρ K c _ 5)
  isplitr; · iexact HR
  isplitr; · iexact Hlev
  isplitl [C5]; · iexact C5
  isplitl [A5]; · iexact A5
  isplitl [HO]; · iexact HO
  iintro ⟨HO, Z5, X5⟩
  iapply (wp_recv m ρ K c _ 6)
  isplitr; · iexact HR
  isplitr; · iexact Hlev
  isplitl [C6]; · iexact C6
  isplitl [A6]; · iexact A6
  isplitl [HO]; · iexact HO
  iintro ⟨HO, Z6, X6⟩
  iapply Hk
  isplitl [HO]; · iexact HO
  isplitl [Z0 Z1 Z2 Z3 Z4 Z5 Z6]
  · isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [X0]; · iexact X0
  isplitl [X1]; · iexact X1
  isplitl [X2]; · iexact X2
  isplitl [X3]; · iexact X3
  isplitl [X4]; · iexact X4
  isplitl [X5]; · iexact X5
  iexact X6

theorem arrPts_def (c : Dev nD) (b : Ref sig .tc) (S : Finset b.ty.Idx) (q : PosShare TreeShare) (f : b.ty.Contents (Elt F)) :
    arrPts c b S q f = (((c : Thread nD τ).loc b) ↦[S]{q} (f : Buf (Elt F) ((c : Thread nD τ).loc b)) : sProp 𝕄) := rfl

/-- A buffer whole, at some contents. -/
def anyPts (c : Dev nD) (b : Ref sig .tc) : sProp 𝕄 := iprop(∃ f, arrPts (F := F) c b Finset.univ fullShare f)

/-- What the exchange lends device `c`: its places in its cells' rounds, the duties it pays, the units its waits take. -/
def lent : sProp 𝕄 :=
  iprop(atPos ER (kcell c none) 0 ∅ 0
    ∗ (bigSep Finset.univ fun j : Fin 7 => atPos ER (kcell c (some (0, j))) 0 ∅ 0) ∗ (bigSep Finset.univ fun j : Fin 7 => atPos ER (kcell c (some (1, j))) 0 ∅ 0)
    ∗ (bigSep Finset.univ fun j : Fin 7 => atPos ER (kcell c (some (2, j))) 0 ∅ 0) ∗ (bigSep Finset.univ fun j : Fin 7 => atPos ER (kcell c (some (3, j))) 0 ∅ 0)
    ∗ (bigSep Finset.univ fun j : Fin 7 => dutyTok ER (kcell (up c j) none) 0 j)
    ∗ (bigSep Finset.univ fun j : Fin 7 => dutyTok ER (kcell c (some (0, j))) 0 0) ∗ (bigSep Finset.univ fun j : Fin 7 => dutyTok ER (kcell (up c j) (some (1, j))) 0 0)
    ∗ (bigSep Finset.univ fun j : Fin 7 => dutyTok ER (kcell c (some (2, j))) 0 0) ∗ (bigSep Finset.univ fun j : Fin 7 => dutyTok ER (kcell (dn c j) (some (3, j))) 0 0))
def credits : sProp 𝕄 :=
  iprop(cred (tallyAt (kcell c none) () 7)
    ∗ (bigSep Finset.univ fun j : Fin 7 => cred (tallyAt (kcell c (some (1, j))) () N)) ∗ (bigSep Finset.univ fun j : Fin 7 => cred (tallyAt (kcell c (some (3, j))) () N)))
/-- The exchange's cells closed. -/
def closed : sProp 𝕄 :=
  iprop(semVal (kcell c none) 0
    ∗ (bigSep Finset.univ fun j : Fin 7 => semVal (kcell c (some (0, j))) 0) ∗ (bigSep Finset.univ fun j : Fin 7 => semVal (kcell c (some (1, j))) 0)
    ∗ (bigSep Finset.univ fun j : Fin 7 => semVal (kcell c (some (2, j))) 0) ∗ (bigSep Finset.univ fun j : Fin 7 => semVal (kcell c (some (3, j))) 0))
/-- The on-chip buffers, whole. -/
def scratches : sProp 𝕄 :=
  iprop(anyPts (F := F) c cc0_scratch0 ∗ anyPts (F := F) c cc0_scratch1 ∗ anyPts (F := F) c cc0_scratch2 ∗ anyPts (F := F) c cc0_scratch3 ∗ anyPts (F := F) c cc0_scratch4 ∗ anyPts (F := F) c cc0_scratch5)
/-- The local copies' semaphores. -/
def kvSems : sProp 𝕄 :=
  iprop((bigSep Finset.univ fun h : Fin 8 => semVal ((c : Thread nD τ), .dma (ks h)) 0) ∗ (bigSep Finset.univ fun h : Fin 8 => semVal ((c : Thread nD τ), .dma (vs h)) 0))
/-- The K and V arrays. -/
def kvArgs : sProp 𝕄 := iprop(arrPts c main_arg2 Finset.univ fullShare (kArr m c) ∗ arrPts c main_arg3 Finset.univ fullShare (vArr m c))
/-- The staged operands. -/
def staged : sProp 𝕄 := iprop(arrPts c cc0_stg0_0 Finset.univ fullShare (xAt m ρ c) ∗ arrPts c cc0_stg1_0 Finset.univ fullShare (wqAt m ρ c) ∗ arrPts c cc0_stg2_0 Finset.univ fullShare (woAt m ρ c))

/-- `body`, with the seven receptions named. -/
theorem body_recvAll : body (F := F) = (do
  let d ← Prog.lift .deviceId
  each7 (sigStep d)
  semWaitWord barSem 7#32
  each8 (fun h => do kCopy d h; vCopy d h)
  let x ← loadX
  let _ ← loadXg (k0_off2 d) (k0_off2_inb d)
  storeXg d x
  each7 (agSend d)
  each8 (fun h => do kWait d h; vWait d h)
  let wq ← loadW wqM
  let wo ← loadW woM
  let z ← slotProg wq wo (k0_off2 d) (k0_off2_inb d) (fun bl => k0_off4 d (BitVec.ofNat 32 bl.val)) (k0_off4_inb d)
  let _ ← loadF accM
  storeF accM (accVal z)
  each7 (peerStep d wq wo)
  let a ← loadF accM
  let a6 ← recvAll a
  let _ ← loadF outM
  storeF outM a6
  each7 (fun j => agWait d (agS j))
  each7 rsWaitS) := by
  unfold body recvAll
  simp only [bind_assoc]

set_option maxHeartbeats 1000000 in
/-- The body, from what device `c` holds at the start to what it holds at the end: the staged result is `outAt`. -/
theorem sound_core (Q : PUnit → sProp 𝕄) :
    iprop(records m ρ K ∗ levAts L lv ∗ lent c ∗ credits c ∗ scratches (F := F) c ∗ kvSems c ∗ kvArgs m c ∗ staged m ρ c ∗ anyPts (F := F) c cc0_stg3_0 ∗ ow c (O₀ c)
        ∗ ((ow c 0 ∗ closed c ∗ scratches (F := F) c ∗ kvSems c ∗ kvArgs m c ∗ staged m ρ c ∗ arrPts c cc0_stg3_0 Finset.univ fullShare (outAt m ρ c)) -∗ Q ⟨⟩))
      ⊢ WP c (body (F := F)) Q := by
  rw [body_recvAll]
  unfold lent credits scratches kvSems kvArgs staged O₀
  rw [WP, wp_bind]
  unfold Prog.lift
  rw [wp_deviceId, wp_ret]
  simp only [wp_bind]
  iintro ⟨#HR, #Hlev, ⟨AtB, At0, At1, At2, At3, TB, T0, T1, T2, T3⟩, ⟨CB, C1, C3⟩, ⟨S0, S1, S2, S3, S4, S5⟩, ⟨Zk, Zv⟩, ⟨H2, H3⟩, ⟨Hx, Hwq, Hwo⟩, Hout, HO, Hk⟩
  imodintro
  unfold anyPts
  icases S0 with ⟨%f0, S0⟩
  icases S1 with ⟨%f1, S1⟩
  icases S2 with ⟨%f2, S2⟩
  icases S3 with ⟨%f3, S3⟩
  icases S4 with ⟨%f4, S4⟩
  icases S5 with ⟨%f5, S5⟩
  icases Hout with ⟨%fo, Hout⟩
  ihave S4 := (Entails.of_eq (sb_blocks c f4)) $$ S4
  ihave S4 := (some_of c cc0_scratch4 sbSet f4) $$ S4
  -- the signals
  ihave S0 := (Entails.of_eq ((xg_blocks c fullShare f0).trans (devs_up c _))) $$ S0
  icases S0 with ⟨S0own, S0⟩
  ihave S0 := (some_of c cc0_scratch0 (fun j => xgSet (up c j)) f0) $$ S0
  ihave S5 := (Entails.of_eq (rb_blocks c f5)) $$ S5
  ihave S5 := (some_of c cc0_scratch5 rbSet f5) $$ S5
  iapply (wp_sigs m ρ K c (tsum 0 (fa c) + tsum 0 (fr c)))
  isplitr; · iexact HR
  isplitl [TB]; · iexact TB
  isplitl [S0]; · iexact S0
  isplitl [S5]; · iexact S5
  isplitl [HO]; · iexact HO
  iintro HO
  -- the wait for the seven
  iapply (wp_barWait m ρ K c (tsum 0 (fa c) + tsum 0 (fr c)) ((above_a c 0).add ((above_r c 0).mono (by decide))))
  isplitr; · iexact HR
  isplitr; · iexact Hlev
  isplitl [CB]; · iexact CB
  isplitl [HO]; · iexact HO
  isplitl [AtB]; · iexact AtB
  iintro ⟨HO, ZB, HP⟩
  unfold barPay
  ihave HP := (split2 _ _) $$ HP
  icases HP with ⟨P0, P5⟩
  ihave P0 := (Entails.of_eq (dn_to_up c fun s => iprop(∃ f, arrPts (F := F) s cc0_scratch0 (xgSet c) fullShare f))) $$ P0
  -- the local copies
  ihave H2 := (src_split c main_arg2 (srcSet c) (kArr m c)).1 $$ H2
  icases H2 with ⟨H2, H2r⟩
  ihave H3 := (src_split c main_arg3 (srcSet c) (vArr m c)).1 $$ H3
  icases H3 with ⟨H3, H3r⟩
  ihave S1 := (Entails.of_eq (k_blocks c f1)) $$ S1
  ihave S1 := (some_of c cc0_scratch1 kSet f1) $$ S1
  ihave S2 := (Entails.of_eq (v_blocks c f2)) $$ S2
  ihave S2 := (some_of c cc0_scratch2 vSet f2) $$ S2
  iapply (wp_kvCopies m c)
  isplitl [H2]; · iexact H2
  isplitl [H3]; · iexact H3
  isplitl [S1]; · iexact S1
  isplitl [S2]; · iexact S2
  isplitl [Zk]; · iexact Zk
  isplitl [Zv]; · iexact Zv
  iintro HF
  -- the own slot
  iapply (wp_loadX c (xAt m ρ c))
  isplitl [Hx]; · iexact Hx
  iintro Hx
  iapply (wp_loadXg c c (k0_off2 c) (k0_off2_inb c) (off2_eq c) fullShare f0)
  isplitl [S0own]; · iexact S0own
  iintro S0own
  iapply (wp_storeXg c f0 (xAt m ρ))
  isplitl [S0own]; · iexact S0own
  iintro S0own
  ihave S0own := (Entails.of_eq ((arr_shares c cc0_scratch0 (xgSet c) (xgAll (xAt m ρ))).trans (eight_last _))) $$ S0own
  icases S0own with ⟨S0own, S0lent⟩
  -- the gathering copies
  iapply (wp_agSends m ρ K c (tsum 0 (fr c)))
  isplitr; · iexact HR
  isplitl [S0lent]; · iexact S0lent
  isplitl [P0]; · iexact P0
  isplitl [T0]; · iexact T0
  isplitl [T1]; · iexact T1
  isplitl [HO]; · iexact HO
  iintro ⟨HO, C0⟩
  -- K and V are there
  iapply (wp_kvWaits m c (tsum 0 (fr c)) ((above_r c 0).mono (by decide)))
  isplitr; · iexact Hlev
  isplitl [HF]; · iexact HF
  isplitl [HO]; · iexact HO
  iintro ⟨HO, Zk, Zv, DK, DV⟩
  unfold kDel vDel
  ihave DK := (split2 _ _) $$ DK
  icases DK with ⟨S1, H2⟩
  ihave DV := (split2 _ _) $$ DV
  icases DV with ⟨S2, H3⟩
  ihave S1 := (Entails.of_eq (k_blocks c (kvAll (kArr m c) c)).symm) $$ S1
  ihave S2 := (Entails.of_eq (v_blocks c (kvAll (vArr m c) c)).symm) $$ S2
  -- the weights, the own slot's attention
  unfold arrPts
  iapply (wp_loadW c wqM (wqAt m ρ c))
  isplitl [Hwq]; · iexact Hwq
  iintro Hwq
  iapply (wp_loadW c woM (woAt m ρ c))
  isplitl [Hwo]; · iexact Hwo
  iintro Hwo
  rw [read_wqM, read_woM]
  iapply (wp_slot m ρ c c _ _ (off2_eq c) _ _ (off4_eq c) (shr 7))
  unfold kvPts arrPts
  isplitl [S0own]; · iexact S0own
  isplitl [S1 S2]
  · isplitl [S1]; · iexact S1
    iexact S2
  iintro ⟨S0own, Skv⟩
  iapply (wp_loadF c accM f3)
  isplitl [S3]; · iexact S3
  iintro S3
  iapply (wp_storeF c accM f3)
  isplitl [S3]; · iexact S3
  rw [write_accM]
  iintro S3
  -- the peers' slots
  iapply (wp_peers m ρ K c)
  unfold kvPts arrPts
  isplitr; · iexact HR
  isplitr; · iexact Hlev
  isplitl [C1]; · iexact C1
  isplitl [At1]; · iexact At1
  isplitl [S4]; · iexact S4
  isplitl [P5]; · iexact P5
  isplitl [T2]; · iexact T2
  isplitl [T3]; · iexact T3
  isplitl [HO]; · iexact HO
  isplitl [Skv]; · iexact Skv
  iintro ⟨HO, ⟨S1, S2⟩, Z1, S0, C2⟩
  -- the sum
  iapply (wp_loadF c accM (accVal (slotZ m ρ c c)))
  isplitl [S3]; · iexact S3
  iintro S3
  rw [read_accM]
  iapply (wp_recvAll m ρ K c)
  unfold arrPts
  isplitr; · iexact HR
  isplitr; · iexact Hlev
  isplitl [C3]; · iexact C3
  isplitl [At3]; · iexact At3
  isplitl [HO]; · iexact HO
  iintro ⟨HO, Z3, S5⟩
  iapply (wp_loadF c outM fo)
  isplitl [Hout]; · iexact Hout
  iintro Hout
  iapply (wp_storeF c outM fo)
  isplitl [Hout]; · iexact Hout
  rw [write_outM]
  iintro Hout
  -- the departures
  iapply (wp_agDone m ρ K c)
  unfold arrPts
  isplitr; · iexact HR
  isplitr; · iexact Hlev
  isplitl [C0]; · iexact C0
  isplitl [At0]; · iexact At0
  isplitl [HO]; · iexact HO
  iintro ⟨HO, Z0, S0lent⟩
  iapply (wp_rsDone m ρ K c)
  unfold arrPts
  isplitr; · iexact HR
  isplitr; · iexact Hlev
  isplitl [C2]; · iexact C2
  isplitl [At2]; · iexact At2
  isplitl [HO]; · iexact HO
  iintro ⟨HO, Z2, S4⟩
  iapply Hk
  isplitl [HO]; · iexact HO
  isplitl [ZB Z0 Z1 Z2 Z3]
  · unfold closed
    isplitl [ZB]; · iexact ZB
    isplitl [Z0]; · iexact Z0
    isplitl [Z1]; · iexact Z1
    isplitl [Z2]; · iexact Z2
    iexact Z3
  isplitl [S0own S0lent S0 S1 S2 S3 S4 S5]
  · isplitl [S0own S0lent S0]
    · iexists xgAll (xAt m ρ)
      have hj := Entails.of_eq ((xg_blocks c fullShare (xgAll (xAt m ρ))).trans (devs_dn c _)).symm
      simp only [arrPts_def] at hj
      iapply hj
      isplitl [S0own S0lent]
      · have hk := Entails.of_eq ((arr_shares c cc0_scratch0 (xgSet c) (xgAll (xAt m ρ))).trans (eight_last _)).symm
        simp only [arrPts_def] at hk
        iapply hk
        isplitl [S0own]; · iexact S0own
        iexact S0lent
      iexact S0
    isplitl [S1]; · iexists _; iexact S1
    isplitl [S2]; · iexists _; iexact S2
    isplitl [S3]; · iexists _; iexact S3
    isplitl [S4]
    · iexists bufAll (sent m ρ c)
      have hj := Entails.of_eq (sb_blocks c (bufAll (sent m ρ c))).symm
      simp only [arrPts_def] at hj
      iapply hj
      iexact S4
    iexists bufAll (recvd m ρ c)
    have hj := Entails.of_eq (rb_blocks c (bufAll (recvd m ρ c))).symm
    simp only [arrPts_def] at hj
    iapply hj
    iexact S5
  isplitl [Zk Zv]
  · isplitl [Zk]; · iexact Zk
    iexact Zv
  isplitl [H2 H2r H3 H3r]
  · isplitl [H2 H2r]
    · have hj := (src_split c main_arg2 (srcSet c) (kArr m c)).2
      simp only [arrPts_def] at hj
      iapply hj
      isplitl [H2]; · iexact H2
      iexact H2r
    have hj := (src_split c main_arg3 (srcSet c) (vArr m c)).2
    simp only [arrPts_def] at hj
    iapply hj
    isplitl [H3]; · iexact H3
    iexact H3r
  isplitl [Hx Hwq Hwo]
  · isplitl [Hx]; · iexact Hx
    isplitl [Hwq]; · iexact Hwq
    iexact Hwo
  unfold outAt sumAll
  iexact Hout

end Phases

end Cert.KernelIdeal.My

end
-- ==== Proof.KI.BodyEq.lean ====
/- The printed body is the structured program. -/
module

public import proofs.«01_k».proof.Proof.KI.Prog
public import proofs.«01_k».proof.Proof.Gen.KernelIdeal.Skeleton

@[expose] public section

noncomputable section

namespace Cert.KernelIdeal.My

open Cert.KernelIdeal Cert.KernelIdeal.Gen
open Idealize.ShloMosaic Idealize.ShloMosaic.TcCoe
open Idealize.SL Idealize.SL.Sem

variable {F : FTy → Type} [FloatOps F]

set_option maxRecDepth 65536 in
set_option maxHeartbeats 0 in
/-- The printed body is the structured one. -/
theorem body_eq : cc0_body (F := F) xM (Memref.isWhole_whole _) wqM (Memref.isWhole_whole _) woM (Memref.isWhole_whole _) kH (Memref.isWhole_whole _) vH (Memref.isWhole_whole _)
    outM (Memref.isWhole_whole _) xgM (Memref.isWhole_whole _) kM (Memref.isWhole_whole _) vM (Memref.isWhole_whole _) accM (Memref.isWhole_whole _)
    sbM (Memref.isWhole_whole _) rbM (Memref.isWhole_whole _) cc0_scratch6 cc0_scratch7 cc0_scratch8 cc0_scratch9 cc0_scratch10 = body (F := F) := by
  rw [cc0_body_eq_skeleton]
  rfl

end Cert.KernelIdeal.My

end
-- ==== Proof.KI.Launch.lean ====
/- The launch: the exchange's ghost state dealt out, the body run on every device, the run's final memory. -/
module

public import proofs.«01_k».proof.Proof.KI.Body
public import proofs.«01_k».proof.Proof.KI.BodyEq
public import Idealize.ShloMosaic.Lib.Pipeline.CollectiveSegs

@[expose] public section

noncomputable section

namespace Cert.KernelIdeal.My

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ShareLeaves
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data: one point, four operands -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from beside its buffers. -/
def start (c : Dev nD) : sProp 𝕄 := iprop((∃ K, records m ρ K ∗ lent c) ∗ credits c ∗ levAts L lv ∗ kvSems c ∗ kvArgs m c)
def Φ₀ (c : Dev nD) : sProp 𝕄 := iprop(start m ρ c ∗ scratches (F := F) c)
/-- What it ends with. -/
def Φ₁ (c : Dev nD) : sProp 𝕄 := iprop(closed c ∗ scratches (F := F) c ∗ kvSems c ∗ kvArgs m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wqAt m ρ c
    | ⟨2, _⟩ => woAt m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xAt m ρ c) ∗ stg c cc0_stg1_0 (wqAt m ρ c) ∗ stg c cc0_stg2_0 (woAt m ρ c) ∗ stg c cc0_stg3_0 (outAt m ρ c))

/-- The body as the pipeline calls it. -/
theorem sound_body (c : Dev nD) : bodyPre m ρ c ⊢ WP c (body (F := F)) fun _ => bodyPost m ρ c := by
  unfold bodyPre Φ₀ start
  iintro ⟨⟨⟨⟨%K, #HR, Hl⟩, Hc, #Hlev, Hs, Ha⟩, Hscr⟩, Ho, ⟨%d0, %g0, %hg0, Hx⟩, ⟨%d1, %g1, %hg1, Hwq⟩, ⟨%d2, %g2, %hg2, Hwo⟩, ⟨%d3, %g3, %hg3, Hout⟩⟩
  have hx : g0 = xAt m ρ c := by rw [hg0]; unfold Dat.before; rw [if_pos (fetch0_0 t₀)]; rfl
  have hwq : g1 = wqAt m ρ c := by rw [hg1]; unfold Dat.before; rw [if_pos (fetch0_1 t₀)]; rfl
  have hwo : g2 = woAt m ρ c := by rw [hg2]; unfold Dat.before; rw [if_pos (fetch0_2 t₀)]; rfl
  subst hx hwq hwo
  unfold Dat.owesAt Pipeline.owesWithin
  icases Ho with ⟨%W, %hW, HO⟩
  rw [show (dats m ρ 0 c).owed t₀.castSucc = O₀ c from rfl]
  iapply (sound_core m ρ K c fun _ => bodyPost m ρ c)
  isplitr; · iexact HR
  isplitr; · iexact Hlev
  isplitl [Hl]; · iexact Hl
  isplitl [Hc]; · iexact Hc
  isplitl [Hscr]; · iexact Hscr
  isplitl [Hs]; · iexact Hs
  isplitl [Ha]; · iexact Ha
  unfold staged anyPts ow arrPts
  isplitl [Hx Hwq Hwo]
  · isplitl [Hx]; · iexact Hx
    isplitl [Hwq]; · iexact Hwq
    iexact Hwo
  isplitl [Hout]; · iexists g3; iexact Hout
  isplitl [HO]; · iexists W; iexact HO
  iintro ⟨⟨%W', HO⟩, Hcl, Hscr, Hs, Ha, ⟨Hx, Hwq, Hwo⟩, Hout⟩
  unfold bodyPost Φ₁ Dat.owesAt Pipeline.owesWithin
  rw [show (dats m ρ 0 c).owed t₀.succ = 0 from rfl]
  isplitl [Hcl Hscr Hs Ha]
  · isplitl [Hcl]; · iexact Hcl
    isplitl [Hscr]; · iexact Hscr
    isplitl [Hs]; · iexact Hs
    iexact Ha
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) wqM (Memref.isWhole_whole _) woM (Memref.isWhole_whole _) kH (Memref.isWhole_whole _) vH (Memref.isWhole_whole _)
      outM (Memref.isWhole_whole _) xgM (Memref.isWhole_whole _) kM (Memref.isWhole_whole _) vM (Memref.isWhole_whole _) accM (Memref.isWhole_whole _)
      sbM (Memref.isWhole_whole _) rbM (Memref.isWhole_whole _) cc0_scratch6 cc0_scratch7 cc0_scratch8 cc0_scratch9 cc0_scratch10) (fun _ => bodyPost m ρ c)
  rw [body_eq]
  exact sound_body m ρ c

/-! ## The cells and their ghost state -/

/-- The kernel's own semaphores: the exchange's twenty-eight, the local copies' sixteen. -/
abbrev osem : (Fin 4 × Fin 7) ⊕ (Fin 8 ⊕ Fin 8) → SemLoc sig
  | .inl aj => .dma (sem7 (arr7 aj.1) aj.2)
  | .inr (.inl h) => .dma (ks h)
  | .inr (.inr h) => .dma (vs h)
theorem ownSemFacts : Pipeline.OwnSemFacts cfg0.spec osem := by decide +kernel

theorem share_eq (c : Dev nD) (w : Fin cfg0.W) : (dats m ρ 0 c).share w = fullShare := by unfold Dat.share; split <;> rfl

theorem csem_inj : Function.Injective csem := fun i j h => by
  have := congrArg dec h; rw [dec_csem, dec_csem] at this; exact Option.some.inj this
abbrev cellAt (ck : Dev nD × CI) : GSem nD τ sig := kcell ck.1 ck.2
theorem cellAt_inj : Function.Injective cellAt := by
  rintro ⟨c, k⟩ ⟨c', k'⟩ h
  have h1 : c = c' := congrArg (fun g : GSem nD τ sig => g.1.1) h
  have h2 : k = k' := csem_inj (congrArg Prod.snd h)
  subst h1 h2; rfl
def ringCells : Finset (GSem nD τ sig) := Finset.univ.map ⟨cellAt, cellAt_inj⟩

/-- A device's own cells' duties: the barrier's seven, the copies' one each. -/
abbrev TI : Type := Fin 7 ⊕ (Fin 4 × Fin 7)
abbrev tokCell : TI → CI × Fin 7
  | .inl j => (none, j)
  | .inr aj => (some aj, 0)
theorem tokCell_inj : Function.Injective tokCell := by decide +kernel
abbrev tokOf (ct : Dev nD × TI) : GSem nD τ sig × ℕ × Fin 7 := (kcell ct.1 (tokCell ct.2).1, 0, (tokCell ct.2).2)
theorem tokOf_inj : Function.Injective tokOf := by
  rintro ⟨c, k⟩ ⟨c', k'⟩ h
  have h1 : c = c' := congrArg (fun x : GSem nD τ sig × ℕ × Fin 7 => x.1.1.1) h
  have h2 : (tokCell k).1 = (tokCell k').1 := csem_inj (congrArg (fun x : GSem nD τ sig × ℕ × Fin 7 => x.1.2) h)
  have h3 : (tokCell k).2 = (tokCell k').2 := congrArg (fun x : GSem nD τ sig × ℕ × Fin 7 => x.2.2) h
  have h4 : k = k' := tokCell_inj (Prod.ext h2 h3)
  subst h1 h4; rfl
def ringToks : Finset (GSem nD τ sig × ℕ × Fin 7) := Finset.univ.map ⟨tokOf, tokOf_inj⟩

def u₀ : UU :=
  (initOf (Pipeline.cells cfgs cellOf_inj) (Pipeline.launchToks cfgs cellOf_inj), (initOf ringCells ringToks, 1))

/-- The exchange's half of the kernel's own part. -/
theorem ring_own : (BI.own ((embR : Emb (UB × Counters) 𝕄) (initOf ringCells ringToks, 1)) : sProp 𝕄)
    ⊢ iprop(BI.own (ER (initOf ringCells ringToks)) ∗ BI.own (((Emb.inr : Emb Counters (UB × Counters)).trans embR) 1)) :=
  by
  have h := own_pair_emb (M' := 𝕄) (embR : Emb (UB × Counters) 𝕄) (initOf ringCells ringToks) (1 : Counters)
  exact h

theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem four_seven (Φ : Fin 4 × Fin 7 → sProp 𝕄) : bigSep Finset.univ Φ
    = iprop((bigSep Finset.univ fun j : Fin 7 => Φ (0, j)) ∗ (bigSep Finset.univ fun j : Fin 7 => Φ (1, j)) ∗ (bigSep Finset.univ fun j : Fin 7 => Φ (2, j)) ∗ (bigSep Finset.univ fun j : Fin 7 => Φ (3, j))) := by
  rw [bigSep_univ_prod, four]
theorem erase_none : (Finset.univ : Finset CI).erase none = Finset.univ.map Function.Embedding.some := by decide +kernel
/-- A family over a device's cells. -/
theorem bigSep_CI (Φ : CI → sProp 𝕄) : bigSep Finset.univ Φ = iprop(Φ none ∗ bigSep Finset.univ fun aj : Fin 4 × Fin 7 => Φ (some aj)) := by
  rw [bigSep_univ_at Φ none, erase_none, bigSep_map]; rfl

/-- The duty tokens of device `c`'s own cells. -/
def toks (c : Dev nD) : sProp 𝕄 :=
  iprop((bigSep Finset.univ fun j : Fin 7 => dutyTok ER (kcell c none) 0 j) ∗ bigSep Finset.univ fun aj : Fin 4 × Fin 7 => dutyTok ER (kcell c (some aj)) 0 0)

/-- What the launch element deals device `c`. -/
def G (c : Dev nD) : sProp 𝕄 :=
  iprop((bigSep Finset.univ fun k : CI => roundState ER (Rd m ρ) (kcell c k) 0)
    ∗ (bigSep Finset.univ fun k : CI => iprop(atPos ER (kcell c k) 0 ∅ 0 ∗ reached ER (kcell c k) 0)) ∗ toks c)

/-- What the global step makes of it. -/
def G' (c : Dev nD) : sProp 𝕄 := iprop((∃ K, records m ρ K ∗ lent c) ∗ kvSems c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero: the exchange's and the local copies'. -/
theorem ownSems0_eq (c : Dev nD) : (Pipeline.ownSems0 (Ix := Unit) (Name := ℕ) (U := UU) (Lvl := ℕ) (Val := Elt F) (τ := τ) osem c : sProp 𝕄)
    = iprop((bigSep Finset.univ fun aj : Fin 4 × Fin 7 => semVal (kcell c (some aj)) 0) ∗ kvSems c) := by
  unfold Pipeline.ownSems0 kvSems
  rw [bigSep_univ_sum, bigSep_univ_sum]; rfl
/-- The barrier semaphore is the launch's one unscoped semaphore. -/
theorem unscopedSems0_eq (c : Dev nD) : (unscopedSems0 c : sProp 𝕄) = semVal (kcell c none) 0 := by
  unfold unscopedSems0; rw [bigSep_eq_bigSepL_of_eq [SemLoc.reg barSem] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell c k)))
          ∗ (bigSep Finset.univ fun k => iprop(atPos ER (kcell c k) 0 ∅ 0 ∗ reached ER (kcell c k) 0)) ∗ toks c ∗ kvSems c) := by
  unfold G
  rw [ownSems0_eq, unscopedSems0_eq]
  iintro ⟨⟨Hos, Hkv⟩, Hus, Hst, Hat, Htok⟩
  ihave Hv := (Entails.of_eq (bigSep_CI fun k : CI => (semVal (kcell c k) 0 : sProp 𝕄)).symm) $$ [Hos Hus]
  · isplitl [Hus] <;> iassumption
  imod (show iprop((bigSep Finset.univ fun k : CI => semVal (kcell c k) 0) ∗ bigSep Finset.univ fun k : CI => roundState ER (Rd m ρ) (kcell c k) 0)
      ⊢ (|={Set.univ}=> bigSep Finset.univ fun k => iprop(∃ κ : ℕ, cellInv ER (Rd m ρ) κ (kcell c k)) : sProp 𝕄) from by
        rw [← bigSep_sep']
        exact (bigSep_mono fun k _ => (Rounds.body_intro ER (Rd m ρ) (kcell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hkv

/-- Devices and offsets in either order. -/
theorem swap (Φ : Fin 7 → Dev nD → sProp 𝕄) :
    (bigSep Finset.univ fun c : Dev nD => bigSep Finset.univ fun j : Fin 7 => Φ j c) = bigSep Finset.univ fun j : Fin 7 => bigSep Finset.univ fun c : Dev nD => Φ j c := by
  rw [← bigSep_univ_prod (fun cj : Dev nD × Fin 7 => Φ cj.2 cj.1), bigSep_univ_equiv (Equiv.prodComm (Fin 7) (Dev nD)), bigSep_univ_prod]; rfl

/-- A family over devices and offsets, each offset's devices shifted its own way. -/
theorem around (e : Fin 7 → Dev nD ≃ Dev nD) (Φ : Fin 7 → Dev nD → sProp 𝕄) :
    (bigSep Finset.univ fun c : Dev nD => bigSep Finset.univ fun j : Fin 7 => Φ j c) = bigSep Finset.univ fun c : Dev nD => bigSep Finset.univ fun j : Fin 7 => Φ j (e j c) := by
  rw [swap Φ, bigSep_congr (s := Finset.univ) (fun (j : Fin 7) _ => bigSep_univ_equiv (e j) (Φ j)), ← swap fun j c => Φ j (e j c)]

/-- The tokens of the duties device `c` pays. -/
def payToks (c : Dev nD) : sProp 𝕄 :=
  iprop((bigSep Finset.univ fun j : Fin 7 => dutyTok ER (kcell (up c j) none) 0 j)
    ∗ (bigSep Finset.univ fun j : Fin 7 => dutyTok ER (kcell c (some (0, j))) 0 0) ∗ (bigSep Finset.univ fun j : Fin 7 => dutyTok ER (kcell (up c j) (some (1, j))) 0 0)
    ∗ (bigSep Finset.univ fun j : Fin 7 => dutyTok ER (kcell c (some (2, j))) 0 0) ∗ (bigSep Finset.univ fun j : Fin 7 => dutyTok ER (kcell (dn c j) (some (3, j))) 0 0))
/-- What stays with device `c`. -/
def linear (c : Dev nD) : sProp 𝕄 := iprop((bigSep Finset.univ fun k : CI => atPos ER (kcell c k) 0 ∅ 0) ∗ payToks c ∗ kvSems c)

/-- The tokens dealt out to the devices that pay. -/
theorem toks_around : (bigSep Finset.univ fun c : Dev nD => (toks c : sProp 𝕄)) = bigSep Finset.univ fun c : Dev nD => payToks c := by
  have h (c : Dev nD) : (toks c : sProp 𝕄) = iprop((bigSep Finset.univ fun j : Fin 7 => dutyTok ER (kcell c none) 0 j)
      ∗ (bigSep Finset.univ fun j : Fin 7 => dutyTok ER (kcell c (some (0, j))) 0 0) ∗ (bigSep Finset.univ fun j : Fin 7 => dutyTok ER (kcell c (some (1, j))) 0 0)
      ∗ (bigSep Finset.univ fun j : Fin 7 => dutyTok ER (kcell c (some (2, j))) 0 0) ∗ (bigSep Finset.univ fun j : Fin 7 => dutyTok ER (kcell c (some (3, j))) 0 0)) := by
    unfold toks; rw [four_seven]
  rw [bigSep_congr fun c _ => h c]
  unfold payToks
  rw [bigSep_sep', bigSep_sep', bigSep_sep', bigSep_sep', bigSep_sep', bigSep_sep', bigSep_sep', bigSep_sep',
    around rot (fun j c => (dutyTok ER (kcell c none) 0 j : sProp 𝕄)),
    around rot (fun j c => (dutyTok ER (kcell c (some (1, j))) 0 0 : sProp 𝕄)),
    around (fun j => (rot j).symm) (fun j c => (dutyTok ER (kcell c (some (3, j))) 0 0 : sProp 𝕄))]
  rfl

theorem ghost_intro (K : Dev nD × CI → ℕ) (c : Dev nD) : iprop(records m ρ K ∗ linear c) ⊢ G' m ρ c := by
  unfold linear payToks G' lent
  rw [bigSep_CI, four_seven]
  iintro ⟨#HR, ⟨HaB, Ha0, Ha1, Ha2, Ha3⟩, ⟨HtB, Ht0, Ht1, Ht2, Ht3⟩, Hkv⟩
  isplitr [Hkv]
  · iexists K
    isplitr; · iexact HR
    isplitl [HaB]; · iexact HaB
    isplitl [Ha0]; · iexact Ha0
    isplitl [Ha1]; · iexact Ha1
    isplitl [Ha2]; · iexact Ha2
    isplitl [Ha3]; · iexact Ha3
    isplitl [HtB]; · iexact HtB
    isplitl [Ht0]; · iexact Ht0
    isplitl [Ht1]; · iexact Ht1
    isplitl [Ht2]; · iexact Ht2
    iexact Ht3
  iexact Hkv

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell c k)))
          ∗ (bigSep Finset.univ fun k => iprop(atPos ER (kcell c k) 0 ∅ 0 ∗ reached ER (kcell c k) 0)) ∗ toks c ∗ kvSems c) : sProp 𝕄)
      ⊢ bigSep Finset.univ (G' m ρ) := by
  rw [bigSep_sep', bigSep_sep', bigSep_sep', ← bigSep_univ_prod (fun ck : Dev nD × CI => iprop(∃ κ : ℕ, cellInv ER (Rd m ρ) κ (kcell ck.1 ck.2))),
    bigSep_congr (s := Finset.univ) (fun (c : Dev nD) _ => bigSep_sep' Finset.univ (fun k : CI => (atPos ER (kcell c k) 0 ∅ 0 : sProp 𝕄)) (fun k => reached ER (kcell c k) 0)),
    bigSep_sep', ← bigSep_univ_prod (fun ck : Dev nD × CI => (reached ER (kcell ck.1 ck.2) 0 : sProp 𝕄)), toks_around]
  iintro ⟨HI, ⟨Hat, #HR⟩, Htok, Hkv⟩
  ihave HK := (BI.bigSep_exists_pi Finset.univ (fun (ck : Dev nD × CI) (κ : ℕ) => (cellInv ER (Rd m ρ) κ (kcell ck.1 ck.2) : sProp 𝕄))) $$ HI
  icases HK with ⟨%K, #HI⟩
  iapply (bigSep_with_persistent (R := records m ρ K) fun c _ => ghost_intro m ρ K c)
  isplitr
  · unfold records; isplitl; · iexact HI
    iexact HR
  · unfold linear
    rw [bigSep_sep', bigSep_sep']
    isplitl [Hat]; · iexact Hat
    isplitl [Htok]; · iexact Htok
    iexact Hkv

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- One cell's tally read at a cell. -/
theorem tally_cell (p c : Dev nD) (i' i : CI) (k : ℕ) : (tallyAt (kcell p i') () k : CellTallies nD τ sig Unit) (kcell c i) () = if p = c ∧ i' = i then k else 0 := by
  rw [tallyAt_apply]
  by_cases h : p = c ∧ i' = i
  · rw [h.1, h.2, if_pos ⟨rfl, rfl⟩, if_pos ⟨rfl, rfl⟩]
  · rw [if_neg h, if_neg]
    rintro ⟨h', -⟩
    exact h ⟨(congrArg (fun g : GSem nD τ sig => g.1.1) h').symm, (csem_inj (congrArg Prod.snd h')).symm⟩

theorem todo_zero : todo 0 = Finset.univ := by decide

/-- What device `d` owes device `c`'s cell `i`. -/
theorem owed_cell (d c : Dev nD) (i : CI) : O₀ d (kcell c i) ()
    = (∑ j : Fin 7, if up d j = c ∧ none = i then 1 else 0)
      + ((∑ j : Fin 7, if up d j = c ∧ some (1, j) = i then N else 0) + ∑ j : Fin 7, if dn d j = c ∧ some (3, j) = i then N else 0) := by
  unfold O₀
  rw [Pi.add_apply, Finsupp.add_apply, Pi.add_apply, Finsupp.add_apply, tsum_apply, tsum_apply, tsum_apply, todo_zero]
  exact congrArg₂ (· + ·) (Finset.sum_congr rfl fun j _ => tally_cell (up d j) c none i 1)
    (congrArg₂ (· + ·) (Finset.sum_congr rfl fun j _ => tally_cell (up d j) c (some (1, j)) i N) (Finset.sum_congr rfl fun j _ => tally_cell (dn d j) c (some (3, j)) i N))

/-- `n` where `p` holds is `n` times one. -/
theorem sum_scale (n : ℕ) (p : Dev nD → Fin 7 → Prop) [∀ d j, Decidable (p d j)] :
    (∑ d : Dev nD, ∑ j : Fin 7, if p d j then n else 0) = n * ∑ d : Dev nD, ∑ j : Fin 7, if p d j then 1 else 0 := by
  rw [Finset.mul_sum]
  refine Finset.sum_congr rfl fun d _ => ?_
  rw [Finset.mul_sum]
  exact Finset.sum_congr rfl fun j _ => by rw [mul_ite, mul_one, mul_zero]

/-- What the devices owe a cell between them. -/
def due (i : CI) : ℕ := match i with
  | none => 7
  | some (1, _) => N
  | some (3, _) => N
  | _ => 0

theorem count_bar : ∀ (c : Dev nD) (i : CI), (∑ d : Dev nD, ∑ j : Fin 7, if up d j = c ∧ none = i then 1 else 0) = if i = none then 7 else 0 := by decide +kernel
theorem count_ag : ∀ (c : Dev nD) (i : CI), (∑ d : Dev nD, ∑ j : Fin 7, if up d j = c ∧ some (1, j) = i then 1 else 0) = match i with | some (1, _) => 1 | _ => 0 := by decide +kernel
theorem count_rs : ∀ (c : Dev nD) (i : CI), (∑ d : Dev nD, ∑ j : Fin 7, if dn d j = c ∧ some (3, j) = i then 1 else 0) = match i with | some (3, _) => 1 | _ => 0 := by decide +kernel

theorem due_eq (c : Dev nD) (i : CI) : (∑ d : Dev nD, O₀ d (kcell c i) ()) = due i := by
  rw [Finset.sum_congr rfl fun d _ => owed_cell d c i, Finset.sum_add_distrib, Finset.sum_add_distrib, sum_scale N, sum_scale N, count_bar, count_ag, count_rs]
  rcases i with _ | ⟨a, j⟩
  · rfl
  · fin_cases a <;> simp [due]

theorem launch_cell (c : Dev nD) (i : CI) :
    tallyOn (kcell c i) (launchCredit (Pipeline.owing O₀) 0 (kcell c i)) = (tallyAt (kcell c i) () (due i) : CellTallies nD τ sig Unit) := by
  unfold tallyAt; refine congrArg _ (Finsupp.ext fun u => ?_); cases u
  rw [Pipeline.launchCredit_owing, Finsupp.single_eq_same, due_eq]

theorem creds (c : Dev nD) : (Pipeline.launchCred O₀ c : sProp 𝕄) ⊢ credits c := by
  unfold Pipeline.launchCred credits
  refine (bigSep_subset (Finset.subset_univ (Finset.univ.map ⟨csem, csem_inj⟩))).trans ?_
  rw [bigSep_map]
  refine (Entails.of_eq (bigSep_congr (Ψ := fun i : CI => (cred (tallyAt (kcell c i) () (due i)) : sProp 𝕄)) fun i _ => congrArg cred (launch_cell c i))).trans ?_
  rw [bigSep_CI, four_seven]
  iintro ⟨H, -, H1, -, H3⟩
  isplitl [H]; · iexact H
  isplitl [H1]; · iexact H1
  iexact H3

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start G'
  iintro ⟨Ha, Hlev, Hcr, -, HG, Hkv⟩
  ihave Hc := (creds (F := F) c) $$ Hcr
  imodintro
  isplitl
  · isplitl [HG]; · iexact HG
    isplitl [Hc]; · iexact Hc
    isplitl [Hlev]; · iexact Hlev
    isplitl [Hkv]; · iexact Hkv
    unfold kvArgs arrPts kArr vArr
    iexact Ha
  · iempintro

/-- The on-chip buffers as the launch holds them. -/
theorem scratches_eq (c : Dev nD) : (Pipeline.scopedRest (Ix := Unit) (Name := ℕ) (U := UU) (Lvl := ℕ) (Val := Elt F) cfg0.spec c : sProp 𝕄) = scratches (F := F) c := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratches_eq]
  unfold Φ₀
  iintro ⟨Hs, -, Hr⟩
  isplitl [Hs]; · iexact Hs
  iexact Hr

/-- What device `c` keeps to the end beside its operands. -/
def kept (c : Dev nD) : sProp 𝕄 := iprop(unscopedSems0 c ∗ kvArgs m c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scratches_eq, ownSems0_eq, four_seven]
  unfold Φ₁ kept closed
  rw [unscopedSems0_eq]
  iintro ⟨⟨HB, H0, H1, H2, H3⟩, Hr, Hkv, Ha⟩
  isplitl [HB Ha]
  · isplitl [HB]; · iexact HB
    iexact Ha
  isplitl [H0 H1 H2 H3 Hkv]
  · isplitr [Hkv]
    · isplitl [H0]; · iexact H0
      isplitl [H1]; · iexact H1
      isplitl [H2]; · iexact H2
      iexact H3
    iexact Hkv
  iexact Hr

theorem dec_stage : ∀ (w : Fin 4) (s : Fin (spec0 w).nbuf), dec (.dma ((spec0 w).sem s)) = none := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_above c _ 0 _ (by rw [show dec _ = none from dec_stage w s]; exact le_refl 0) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

/-- What a device's memory and counters read at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem kept_read (c : Dev nD) (s' : Phys nD τ sig (Elt F)) : iprop(kept m c ∗ emp ∗ SI s') ⊢ |={Set.univ}=> iprop(⌜QY m c s'.mem⌝ ∗ SI s' : sProp 𝕄) := by
  unfold kept kvArgs arrPts
  iintro ⟨⟨Hu, H2, H3⟩, -, HSI⟩
  icombine HSI H2 gives %h2
  icombine HSI H3 gives %h3
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h2 i (Finset.mem_univ _), funext fun i => h3 i (Finset.mem_univ _)⟩
  iexact HSI

def QC : PUnit × MemSt nD τ sig (Elt F) → Prop := fun r =>
  ∀ c : Dev nD, (∀ w : Fin cfg0.W, r.2.mem ((cfg0.win w).arr.view.loc (c : Thread nD τ)) = finalA m ρ c w) ∧ QY m c r.2

set_option maxRecDepth 65536 in
/-- On the eight devices, from any memory with zero counters: every execution ends, with each device's operands at the
    computed contents, the keys and values unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (ring_own (F := F)) $$ HX
      icases H with ⟨HX, -⟩
      imod (fund_ring m ρ) $$ HX with HG
      imodintro
      isplitl [HP] <;> iassumption)
    (hglob := glob m ρ)
    (hA := fun _ _ => rfl) (hpf := fun _ k => k.elim0)
    (X := start m ρ) (Y := kept m) (Z := fun _ => iprop(emp))
    (hX := start_intro m ρ) (hin := phi0_intro m ρ) (hout := phi1_exit m ρ)
    (QY := QY m)
    (hY := kept_read m)
    (hQ := fun _ h hs => ⟨fun c => ⟨(h c).1, (h c).2.2⟩, sem_eq_zero hs fun c => (h c).2.2.1⟩)

end Cert.KernelIdeal.My

end
-- ==== Proof.KI.Frame.lean ====
/- What a run of the kernel leaves: on each device the result array at the computed contents, the five arguments as they
   were, and every counter at zero. -/
module

public import proofs.«01_k».proof.Proof.KI.Launch
public import Idealize.ShloMosaic.Lib.Pipeline.Value

@[expose] public section

noncomputable section

namespace Cert.KernelIdeal.My

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A window whose one block is its whole array reads the array. -/
theorem read_x (f : S2x128x512.Idx → Elt F .bf16) : (win0_0.blk (0 : Fin 1)).view.read (Elt F) f = f := by
  funext i
  show f ((win0_0.rect (0 : Fin 1)).emb i) = f i
  congr 1
  funext a
  exact Fin.ext (win0_0.rect_emb_val_of_index_zero (0 : Fin 1) a (by fin_cases a <;> rfl) i)
theorem read_wq (f : S512x512.Idx → Elt F .bf16) : (win0_1.blk (0 : Fin 1)).view.read (Elt F) f = f := by
  funext i
  show f ((win0_1.rect (0 : Fin 1)).emb i) = f i
  congr 1
  funext a
  exact Fin.ext (win0_1.rect_emb_val_of_index_zero (0 : Fin 1) a (by fin_cases a <;> rfl) i)
theorem read_wo (f : S512x512.Idx → Elt F .bf16) : (win0_2.blk (0 : Fin 1)).view.read (Elt F) f = f := by
  funext i
  show f ((win0_2.rect (0 : Fin 1)).emb i) = f i
  congr 1
  funext a
  exact Fin.ext (win0_2.rect_emb_val_of_index_zero (0 : Fin 1) a (by fin_cases a <;> rfl) i)
theorem read_out (f : S2x128x512.Idx → Elt F .f32) : (win0_3.blk (0 : Fin 1)).view.read (Elt F) f = f := by
  funext i
  show f ((win0_3.rect (0 : Fin 1)).emb i) = f i
  congr 1
  funext a
  exact Fin.ext (win0_3.rect_emb_val_of_index_zero (0 : Fin 1) a (by fin_cases a <;> rfl) i)

theorem xAt_eq (c : Dev nD) : xAt m ρ c = m ((c : Thread nD τ).loc main_arg0) := read_x _
theorem wqAt_eq (c : Dev nD) : wqAt m ρ c = m ((c : Thread nD τ).loc main_arg1) := read_wq _
theorem woAt_eq (c : Dev nD) : woAt m ρ c = m ((c : Thread nD τ).loc main_arg4) := read_wo _

theorem finalA_in (c : Dev nD) (w : Fin cfg0.W) (h : (cfg0.win w).isOut = false) :
    finalA m ρ c w = m ((cfg0.win w).arr.view.loc (c : Thread nD τ)) := (dats m ρ 0 c).arrAt_in w h _

/-- The result array ends at the computed contents. -/
theorem finalA_out (c : Dev nD) : finalA m ρ c (3 : Fin 4) = outAt m ρ c := by
  refine (dats m ρ 0 c).arrAt_eq_of_cover (3 : Fin 4) (outAt m ρ c) (fun t _ => ?_) fun i => ?_
  · obtain rfl : t = (0 : Fin 1) := Subsingleton.elim (α := Fin 1) _ _
    refine Eq.trans ?_ (read_out (outAt m ρ c)).symm
    rfl
  · refine ⟨(0 : Fin 1), flush0_3 _, ?_⟩
    show i ∈ (win0_3.blk (0 : Fin 1)).view.set
    have h : (win0_3.rect (0 : Fin 1)).emb i = i := funext fun a =>
      Fin.ext (win0_3.rect_emb_val_of_index_zero (0 : Fin 1) a (by fin_cases a <;> rfl) i)
    rw [← h]
    exact Finset.mem_map_of_mem _ (Finset.mem_univ _)

/-- The whole run: the result and the arguments on every device, and every counter zero. -/
theorem ends : θ_run (defs (F := F)) (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run _ _ _).mono (fun r h => ⟨fun c => ⟨((h.1 c).1 (3 : Fin 4)).trans (finalA_out m ρ c),
    ((h.1 c).1 (0 : Fin 4)).trans (finalA_in m ρ c 0 rfl), ((h.1 c).1 (1 : Fin 4)).trans (finalA_in m ρ c 1 rfl),
    (h.1 c).2.2.1, (h.1 c).2.2.2, ((h.1 c).1 (2 : Fin 4)).trans (finalA_in m ρ c 2 rfl)⟩, h.2⟩) (run_main m ρ)

end Cert.KernelIdeal.My

end
-- ==== Proof.Val.Spec.lean ====
/- The attention the kernel and the reference compute, as one formula over the extended reals, and the arithmetic the
   two forms differ by: a softmax is unchanged when every score is shifted by the same real number. -/
module

public import Idealize.ShloMosaic.PureOps.Ideal.Laws
public import Idealize.ShloMosaic.Lib.ValueIdxCore
public import Mathlib.Tactic.NormNum
public import Mathlib.Tactic.Linarith
public import Mathlib.Tactic.Positivity

@[expose] public section

noncomputable section

namespace Cert.Val

open Idealize.ShloMosaic Idealize.ShloMosaic.ValueIdx
open scoped BigOperators

/-! ## The formula -/

abbrev AX : Type := (⟨3, ![16, 128, 512]⟩ : Shape).Idx → EReal
abbrev AWq : Type := (⟨2, ![512, 4096]⟩ : Shape).Idx → EReal
abbrev AKv : Type := (⟨4, ![16, 128, 64, 64]⟩ : Shape).Idx → EReal
abbrev AWo : Type := (⟨2, ![4096, 512]⟩ : Shape).Idx → EReal

/-- The scale of the scores, as the printed constant. -/
def eighth : EReal := Ideal.ofBits .f32 0x3E000000#32
/-- The column of the query weights that holds coordinate `d` of head `h`. -/
def col (h d : Fin 64) : Fin 4096 := ⟨64 * h.val + d.val, by omega⟩
/-- A query's coordinate: a row of the input times a column of the query weights. -/
def query (X : AX) (Wq : AWq) (b : Fin 16) (t : Fin 128) (g : Fin 4096) : EReal := ∑ c : Fin 512, X (ix3 b t c) * Wq (ix2 c g)
/-- The scaled score of query row `t` against key row `k`. -/
def score (X : AX) (Wq : AWq) (K : AKv) (b : Fin 16) (h : Fin 64) (t k : Fin 128) : EReal :=
  ∑ d : Fin 64, query X Wq b t (col h d) * eighth * K (ix4 b k h d)
/-- One coordinate of one head's attention. -/
def att (X : AX) (Wq : AWq) (K V : AKv) (b : Fin 16) (h : Fin 64) (t : Fin 128) (d : Fin 64) : EReal :=
  Ideal.div (∑ k : Fin 128, Ideal.exp (score X Wq K b h t k) * V (ix4 b k h d)) (∑ k : Fin 128, Ideal.exp (score X Wq K b h t k))
/-- The contribution of device `p`'s eight heads to one entry of the result. -/
def part (X : AX) (Wq : AWq) (K V : AKv) (Wo : AWo) (p : Fin 8) (b : Fin 16) (t : Fin 128) (e : Fin 512) : EReal :=
  ∑ g : Fin 512, att X Wq K V b ⟨8 * p.val + g.val / 64, by omega⟩ t ⟨g.val % 64, by omega⟩ * Wo (ix2 ⟨512 * p.val + g.val, by omega⟩ e)
/-- One entry of the result: the eight contributions. -/
def res (X : AX) (Wq : AWq) (K V : AKv) (Wo : AWo) (b : Fin 16) (t : Fin 128) (e : Fin 512) : EReal :=
  ∑ p : Fin 8, part X Wq K V Wo p b t e

/-! ## Arithmetic of the extended reals -/

/-- The printed scale is one eighth. -/
theorem eighth_eq : eighth = ((1 / 8 : ℝ) : EReal) := by
  unfold eighth
  simp [Ideal.ofBits, Ideal.ieee]
  rw [← EReal.coe_mul]
  norm_num

/-- A sum of real numbers is real. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor distributes over a sum whatever the terms are. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A quotient by a nonzero real is unchanged when both parts are multiplied by the same positive real. -/
theorem div_scale (c l : ℝ) (hc : 0 < c) (hl : 0 < l) (A : EReal) :
    Ideal.div ((c : EReal) * A) ((c * l : ℝ) : EReal) = Ideal.div A (l : EReal) := by
  have h1 : ((c * l : ℝ) : EReal) ≠ 0 := by exact_mod_cast (mul_pos hc hl).ne'
  have h2 : (l : EReal) ≠ 0 := by exact_mod_cast hl.ne'
  unfold Ideal.div
  rw [if_neg h1, if_neg h2, ← EReal.coe_inv, ← EReal.coe_inv, mul_comm (c : EReal) A, mul_assoc, ← EReal.coe_mul]
  congr 2
  field_simp

/-- A softmax's quotient is unchanged when every (real) score is shifted by the same real number. -/
theorem softmax_shift {n : ℕ} (hn : 0 < n) (s : Fin n → ℝ) (M : ℝ) (v : Fin n → EReal) :
    Ideal.div (∑ k, v k * Ideal.exp ((s k : EReal) - (M : EReal))) (0 + ∑ k, Ideal.exp ((s k : EReal) - (M : EReal)))
      = Ideal.div (∑ k, Ideal.exp (s k : EReal) * v k) (∑ k, Ideal.exp (s k : EReal)) := by
  have he : ∀ k, Ideal.exp ((s k : EReal) - (M : EReal)) = ((Real.exp (-M) * Real.exp (s k) : ℝ) : EReal) := fun k => by
    rw [← EReal.coe_sub, Ideal.exp_coe, ← Real.exp_add, neg_add_eq_sub]
  have hl : 0 < ∑ k : Fin n, Real.exp (s k) :=
    Finset.sum_pos (fun k _ => Real.exp_pos _) ⟨⟨0, hn⟩, Finset.mem_univ _⟩
  simp only [he, Ideal.exp_coe, zero_add]
  rw [sum_coe, sum_coe, ← Finset.mul_sum, ← div_scale _ _ (Real.exp_pos (-M)) hl, coe_mul_sum _ _ (Real.exp_pos (-M)).le]
  congr 1
  refine Finset.sum_congr rfl fun k _ => ?_
  rw [EReal.coe_mul, mul_comm (v k), mul_assoc]

/-- A fold by maximum, from the least element, of at least one real number and nothing else is a real number. -/
theorem fold_max_real {n : ℕ} (hn : 0 < n) (f : Fin n → EReal) (hf : ∀ k, ∃ r : ℝ, f k = r) :
    ∃ M : ℝ, Finset.univ.fold max (⊥ : EReal) f = M := by
  have h1 : Finset.univ.fold max (⊥ : EReal) f < ⊤ := (Finset.fold_max_lt _).2 ⟨bot_lt_top, fun k _ => by
    obtain ⟨r, hr⟩ := hf k; rw [hr]; exact EReal.coe_lt_top r⟩
  have h2 : ⊥ < Finset.univ.fold max (⊥ : EReal) f := (Finset.lt_fold_max _).2 (Or.inr ⟨⟨0, hn⟩, Finset.mem_univ _, by
    obtain ⟨r, hr⟩ := hf ⟨0, hn⟩; rw [hr]; exact EReal.bot_lt_coe r⟩)
  exact ⟨_, (EReal.coe_toReal h1.ne h2.ne').symm⟩

/-- An entry whose absolute value is below infinity is a real number. -/
theorem real_of_abs (x : EReal) (h : max x (-x) < ⊤) : ∃ r : ℝ, x = r := by
  have h1 : x < ⊤ := lt_of_le_of_lt (le_max_left _ _) h
  have h2 : -x < ⊤ := lt_of_le_of_lt (le_max_right _ _) h
  refine ⟨_, (EReal.coe_toReal h1.ne fun hb => ?_).symm⟩
  rw [hb, EReal.neg_bot] at h2
  exact lt_irrefl _ h2

/-! ## The scores are real when the input, the query weights and the keys are -/

variable {X : AX} {Wq : AWq} {K : AKv}

/-- A query of real entries is real. -/
theorem query_real (hX : ∀ i, ∃ r : ℝ, X i = r) (hW : ∀ i, ∃ r : ℝ, Wq i = r) (b : Fin 16) (t : Fin 128) (g : Fin 4096) :
    ∃ r : ℝ, query X Wq b t g = r := by
  choose xr hx using hX
  choose wr hw using hW
  refine ⟨∑ c : Fin 512, xr (ix3 b t c) * wr (ix2 c g), ?_⟩
  rw [← sum_coe]
  exact Finset.sum_congr rfl fun c _ => by rw [hx, hw, EReal.coe_mul]

/-- Scaling the queries is scaling the scores, and the scaled score is real. -/
theorem score_real (hX : ∀ i, ∃ r : ℝ, X i = r) (hW : ∀ i, ∃ r : ℝ, Wq i = r) (hK : ∀ i, ∃ r : ℝ, K i = r)
    (b : Fin 16) (h : Fin 64) (t k : Fin 128) :
    ∃ r : ℝ, score X Wq K b h t k = r ∧ (∑ d : Fin 64, query X Wq b t (col h d) * K (ix4 b k h d)) * eighth = r := by
  choose qr hq using fun d : Fin 64 => query_real hX hW b t (col h d)
  choose kr hk using hK
  refine ⟨∑ d : Fin 64, qr d * (1 / 8) * kr (ix4 b k h d), ?_, ?_⟩
  · rw [← sum_coe]
    exact Finset.sum_congr rfl fun d _ => by rw [hq, hk, eighth_eq, EReal.coe_mul, EReal.coe_mul]
  · have : ∀ d : Fin 64, query X Wq b t (col h d) * K (ix4 b k h d) = ((qr d * kr (ix4 b k h d) : ℝ) : EReal) := fun d => by
      rw [hq, hk, EReal.coe_mul]
    simp only [this]
    rw [sum_coe, eighth_eq, ← EReal.coe_mul, Finset.sum_mul]
    congr 1
    exact Finset.sum_congr rfl fun d _ => by ring

end Cert.Val

end
-- ==== Proof.Val.Pre.lean ====
/- The precondition read: its side conditions, and that the arrays it bounds have real entries. -/
module

public import proofs.«01_k».proof.Defs
public import proofs.«01_k».proof.Proof.Val.Spec
public import Idealize.ShloMosaic.Lib.ReduceAll
public import Idealize.ShloMosaic.Lib.ValueIdx

@[expose] public section

noncomputable section

namespace Cert.Val

open Idealize.ShloMosaic Idealize.ShloMosaic.ValueIdx

/-- The side conditions of the precondition over one device's blocks. -/
theorem kernelFacts : Cert.Pre_finite_KernelIdeal.Facts where
  bitsLt_bf16_f32 := by decide
  bcast_S_S2x128x512 := by decide
  reducesTo_S2x128x512_S_d0_1_2 := by decide
  h_S_ := by decide
  bcast_S_S512x512 := by decide
  reducesTo_S512x512_S_d0_1 := by decide
  bcast_S_S16x128x64x64 := by decide
  reducesTo_S16x128x64x64_S_d0_1_2_3 := by decide

/-- The side conditions of the precondition over the whole arrays. -/
theorem referenceFacts : Cert.Pre_finite_ReferenceIdeal.Facts where
  bitsLt_bf16_f32 := by decide
  bcast_S_S16x128x512 := by decide
  reducesTo_S16x128x512_S_d0_1_2 := by decide
  h_S_ := by decide
  bcast_S_S512x4096 := by decide
  reducesTo_S512x4096_S_d0_1 := by decide
  bcast_S_S16x128x64x64 := by decide
  reducesTo_S16x128x64x64_S_d0_1_2_3 := by decide

/-- The printed infinity is the greatest value. -/
theorem inf_eq : Ideal.ofBits .f32 0x7F800000#32 = ⊤ := by simp [Ideal.ofBits, Ideal.ieee]

/-- A comparison with infinity that holds names a real number. -/
theorem real_of_lt (x : EReal) (h : Ideal.cmp .olt (max x (-x)) (Ideal.ofBits .f32 0x7F800000#32) = 1#1) : ∃ r : ℝ, x = r := by
  rw [inf_eq] at h
  refine real_of_abs x ?_
  by_contra hn
  simp [Ideal.cmp, hn] at h

instance : Subsingleton Cert.Pre_finite_KernelIdeal.S_.Idx := ⟨fun a b => funext fun i => i.elim0⟩

/-- The precondition of one device's blocks: the input, the query weights and the keys have real entries. -/
theorem finite_real [Cert.Pre_finite_KernelIdeal.Facts] (x : FVec Ideal Cert.Pre_finite_KernelIdeal.S2x128x512 .bf16)
    (w : FVec Ideal Cert.Pre_finite_KernelIdeal.S512x512 .bf16) (k v : FVec Ideal Cert.Pre_finite_KernelIdeal.S16x128x64x64 .f32)
    (o : FVec Ideal Cert.Pre_finite_KernelIdeal.S512x512 .bf16)
    (h : Cert.Pre_finite_KernelIdeal.fn (F := Ideal) x w k v o = fun _ => 1#1) :
    (∀ i, ∃ r : ℝ, x i = (r : EReal)) ∧ (∀ i, ∃ r : ℝ, w i = (r : EReal)) ∧ ∀ i, ∃ r : ℝ, k i = (r : EReal) := by
  have e := congrFun h (fun a => a.elim0)
  unfold Cert.Pre_finite_KernelIdeal.fn at e
  obtain ⟨e1, ek⟩ := IntOp.andi_eq_one.1 e
  obtain ⟨ex, ew⟩ := IntOp.andi_eq_one.1 e1
  exact ⟨fun i => real_of_lt _ (Host.reduce_andi_all _ _ _ _ _ ex i), fun i => real_of_lt _ (Host.reduce_andi_all _ _ _ _ _ ew i),
    fun i => real_of_lt _ (Host.reduce_andi_all _ _ _ _ _ ek i)⟩

end Cert.Val

end
-- ==== Proof.Val.Kernel.lean ====
/- The kernel's stored values read entry by entry over the extended reals: what a device computes for a slot, and the
   sum of the eight devices' parts, as the formula of the specification. -/
module

public import proofs.«01_k».proof.Proof.KI.Sched
public import proofs.«01_k».proof.Proof.Val.Spec
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.Layout

@[expose] public section

noncomputable section

namespace Cert.KernelIdeal.My

open Cert.KernelIdeal Cert.KernelIdeal.Gen Cert.Val
open Idealize.ShloMosaic Idealize.ShloMosaic.ValueIdx
open scoped BigOperators

/-! ## The three products -/

/-- A slot's product with a square of weights. -/
theorem proj_apply {φ₁ φ₂ : FTy} (a : FVec Ideal S256x512 φ₁) (w : FVec Ideal S512x512 φ₂) (r : Fin 256) (g : Fin 512) :
    matmul dot_S256x512_S512x512_S256x512_1_0_0_1_n_n none a w (constant S256x512 .f32 0x00000000#32) (ix2 r g)
      = ∑ c : Fin 512, a (ix2 r c) * w (ix2 c g) := by
  have e : dot_S256x512_S512x512_S256x512_1_0_0_1_n_n = DotDims.plain 256 512 512 := rfl
  simp only [matmul]
  rw [e, Ideal.matmul_plain_apply, constant_apply, Ideal.ofBits_zero_f32, zero_add]

/-- The probabilities' product with the values. -/
theorem pv_apply {φ₁ φ₂ : FTy} (a : FVec Ideal S128x128 φ₁) (w : FVec Ideal S128x64 φ₂) (r : Fin 128) (g : Fin 64) :
    matmul dot_S128x128_S128x64_S128x64_1_0_0_1_n_n none a w (constant S128x64 .f32 0x00000000#32) (ix2 r g)
      = ∑ c : Fin 128, a (ix2 r c) * w (ix2 c g) := by
  have e : dot_S128x128_S128x64_S128x64_1_0_0_1_n_n = DotDims.plain 128 128 64 := rfl
  simp only [matmul]
  rw [e, Ideal.matmul_plain_apply, constant_apply, Ideal.ofBits_zero_f32, zero_add]

/-- The queries' product with the keys. -/
theorem qk_apply {φ₁ φ₂ : FTy} (a : FVec Ideal S128x64 φ₁) (w : FVec Ideal S128x64 φ₂) (r g : Fin 128) :
    matmul dot_S128x64_S128x64_S128x128_1_1_0_0_n_n none a w (constant S128x128 .f32 0x00000000#32) (ix2 r g)
      = ∑ c : Fin 64, a (ix2 r c) * w (ix2 g c) := by
  have e : dot_S128x64_S128x64_S128x128_1_1_0_0_n_n = DotDims.transposedRhs 128 64 128 := rfl
  simp only [matmul]
  rw [e, Ideal.matmul_transposedRhs_apply, constant_apply, Ideal.ofBits_zero_f32, zero_add]

/-! ## One slot -/

/-- Row `t` of batch row `bl` in a slot of two. -/
def slotRow (bl : Fin 2) (t : Fin 128) : Fin 256 := ⟨128 * bl.val + t.val, by omega⟩

/-- The slot's 256 rows are its two batch rows' 128 rows. -/
theorem flat_apply {α : Type} (x : S2x128x512.Idx → α) (bl : Fin 2) (t : Fin 128) (g : Fin 512) :
    shapeCast S256x512 x shapeCasts_S2x128x512_S256x512 (ix2 (slotRow bl t) g) = x (ix3 bl t g) :=
  shapeCast_apply x _ _ _ (by
    rw [Shape.rowMajor_val_three, Shape.rowMajor_val_two]
    show (bl.val * 128 + t.val) * 512 + g.val = (128 * bl.val + t.val) * 512 + g.val
    ring)
/-- And back. -/
theorem unflat_apply {α : Type} (x : S256x512.Idx → α) (bl : Fin 2) (t : Fin 128) (g : Fin 512) :
    shapeCast S2x128x512 x shapeCasts_S256x512_S2x128x512 (ix3 bl t g) = x (ix2 (slotRow bl t) g) :=
  shapeCast_apply x _ _ _ (by
    rw [Shape.rowMajor_val_three, Shape.rowMajor_val_two]
    show (128 * bl.val + t.val) * 512 + g.val = (bl.val * 128 + t.val) * 512 + g.val
    ring)

/-- A scaled query. -/
theorem qVal_apply (wq : Vec Ideal S512x512 .bf16) (xs : Vec Ideal S2x128x512 .bf16) (bl : Fin 2) (t : Fin 128) (g : Fin 512) :
    qVal wq xs (ix2 (slotRow bl t) g) = (∑ c : Fin 512, xs (ix3 bl t c) * wq (ix2 c g)) * eighth := by
  unfold qVal
  rw [truncf_apply, mulf_apply, proj_apply, broadcast_apply]
  congr 1
  exact Finset.sum_congr rfl fun c _ => by rw [flat_apply, shapeCast_self]

/-- A key or value row as a matrix. -/
theorem plane_apply (k : Vec Ideal S1x128x64 .f32) (t : Fin 128) (d : Fin 64) :
    shapeCast S128x64 k shapeCasts_S1x128x64_S128x64 (ix2 t d) = k (ix3 0 t d) :=
  shapeCast_apply k _ _ _ (by
    rw [Shape.rowMajor_val_three, Shape.rowMajor_val_two]
    show (0 * 128 + t.val) * 64 + d.val = t.val * 64 + d.val
    ring)

/-- One head's columns of a slot's queries. -/
theorem head_apply (q : FVec Ideal S256x512 .bf16) (bl : Fin 2) (h : Fin 8) (t : Fin 128) (d : Fin 64) :
    extractStridedSlice S128x64 ![128 * bl.val, 64 * h.val] q (inb_head bl h) (ix2 t d)
      = q (ix2 (slotRow bl t) ⟨64 * h.val + d.val, by omega⟩) :=
  extractStridedSlice_apply _ q _ _ _ fun a => by
    match a with
    | ⟨0, _⟩ => rfl
    | ⟨1, _⟩ => rfl

/-- The exponentials' row sums, spread over the columns. -/
theorem norm_apply (p : FVec Ideal S128x128 .f32) (t : Fin 128) (d : Fin 64) :
    broadcastTo S128x64 (shapeCast S128x1 (multiReduction .add [1] S128 p 0x00000000#32 reduces_S128x128_S128 (.inl rfl) rfl) shapeCasts_S128_S128x1) broadcasts_S128x1_S128x64 (ix2 t d)
      = ∑ k : Fin 128, p (ix2 t k) := by
  rw [broadcastTo_apply _ _ _ (ix2 t (0 : Fin 1)) (fun a => by
    match a with
    | ⟨0, _⟩ => rfl
    | ⟨1, _⟩ => rfl)]
  rw [shapeCast_apply _ _ _ (ix1 t : S128.Idx) (by
    rw [Shape.rowMajor_val_one, Shape.rowMajor_val_two]
    show t.val = t.val * 1 + 0
    omega)]
  refine (Ideal.multiReduction_add_single p 0x00000000#32 reduces_S128x128_S128 (.inl rfl) rfl (ix1 t)).trans ?_
  refine Finset.sum_congr rfl fun k _ => congrArg p ?_
  funext a
  match a with
  | ⟨0, _⟩ => rfl
  | ⟨1, _⟩ => rfl

/-- One head's attention on one batch row. -/
theorem headVal_apply (q : FVec Ideal S256x512 .bf16) (bl : Fin 2) (h : Fin 8) (k v : Vec Ideal S1x128x64 .f32) (t : Fin 128) (d : Fin 64) :
    headVal q bl h k v (ix2 t d) =
      Ideal.div (∑ j : Fin 128, Ideal.exp (∑ u : Fin 64, q (ix2 (slotRow bl t) ⟨64 * h.val + u.val, by omega⟩) * k (ix3 0 j u)) * v (ix3 0 j d))
        (∑ j : Fin 128, Ideal.exp (∑ u : Fin 64, q (ix2 (slotRow bl t) ⟨64 * h.val + u.val, by omega⟩) * k (ix3 0 j u))) := by
  have hp : ∀ j : Fin 128, exp (matmul dot_S128x64_S128x64_S128x128_1_1_0_0_n_n none
      (extractStridedSlice S128x64 ![128 * bl.val, 64 * h.val] q (inb_head bl h))
      (truncf .bf16 (shapeCast S128x64 k shapeCasts_S1x128x64_S128x64) bitsLt_bf16_f32) (constant S128x128 .f32 0x00000000#32)) (ix2 t j)
      = Ideal.exp (∑ u : Fin 64, q (ix2 (slotRow bl t) ⟨64 * h.val + u.val, by omega⟩) * k (ix3 0 j u)) := fun j => by
    refine congrArg Ideal.exp ((qk_apply _ _ t j).trans ?_)
    exact Finset.sum_congr rfl fun u _ => by rw [head_apply, truncf_apply, plane_apply]
  unfold headVal
  dsimp only
  rw [truncf_apply, divf_apply, pv_apply, norm_apply]
  congr 1
  · exact Finset.sum_congr rfl fun j _ => by rw [truncf_apply, truncf_apply, plane_apply, hp]
  · exact Finset.sum_congr rfl fun j _ => hp j

/-- The eight heads side by side. -/
theorem rowVal_apply (o : Fin 8 → FVec Ideal S128x64 .bf16) (t : Fin 128) (g : Fin 512) :
    rowVal o (ix2 t g) = o ⟨g.val / 64, by omega⟩ (ix2 t ⟨g.val % 64, by omega⟩) :=
  concatenate_ofFn_apply (s₁ := S128x64) (t := S128x512) 1 o _ rfl 64 rfl (ix2 t g) ⟨g.val / 64, by omega⟩ rfl
    (ix2 t ⟨g.val % 64, by omega⟩) rfl (fun b hb => by
      match b with
      | ⟨0, _⟩ => rfl
      | ⟨1, _⟩ => exact absurd rfl hb)

/-- The two batch rows' output projection. -/
theorem outVal_apply (wo : Vec Ideal S512x512 .bf16) (r : Fin 2 → FVec Ideal S128x512 .bf16) (bl : Fin 2) (t : Fin 128) (e : Fin 512) :
    outVal wo (r 0) (r 1) (ix2 (slotRow bl t) e) = ∑ g : Fin 512, r bl (ix2 t g) * wo (ix2 g e) := by
  unfold outVal
  rw [proj_apply]
  refine Finset.sum_congr rfl fun g _ => ?_
  rw [shapeCast_self]
  congr 1
  exact concatenate_ofFn_apply (s₁ := S128x512) (t := S256x512) 0 r concatenates_S128x512_S128x512_S256x512_d0 rfl 128 rfl (ix2 (slotRow bl t) g) bl
    (by show (128 * bl.val + t.val) / 128 = bl.val; omega) (ix2 t g) (by show t.val = (128 * bl.val + t.val) % 128; omega) (fun b hb => by
      match b with
      | ⟨0, _⟩ => exact absurd rfl hb
      | ⟨1, _⟩ => rfl)

/-! ## The sum over the devices -/

/-- What is kept of the own slot, read at an entry. -/
theorem accVal_apply (z : FVec Ideal S256x512 .f32) (bl : Fin 2) (t : Fin 128) (e : Fin 512) :
    accVal z (ix3 bl t e) = z (ix2 (slotRow bl t) e) := by
  unfold accVal; rw [shapeCast_self, unflat_apply]

/-- What is sent and added, read at an entry. -/
theorem addVal_apply (a : Vec Ideal S2x128x512 .f32) (z : FVec Ideal S256x512 .f32) (bl : Fin 2) (t : Fin 128) (e : Fin 512) :
    addVal a (sendVal z) (ix3 bl t e) = a (ix3 bl t e) + z (ix2 (slotRow bl t) e) := by
  unfold addVal sendVal
  rw [addf_apply, extf_apply, shapeCast_1abc_abc_apply, shapeCast_abc_1abc_apply, unflat_apply, truncf_apply]

/-- A sum over the devices is one device's term and its seven successors'. -/
theorem sum_devices (f : Dev nD → EReal) (c : Dev nD) :
    ∑ p, f p = f c + f (up c 0) + f (up c 1) + f (up c 2) + f (up c 3) + f (up c 4) + f (up c 5) + f (up c 6) := by
  rw [← Finset.add_sum_erase _ _ (Finset.mem_univ c), erase_up, Finset.sum_map]
  simp only [Function.Embedding.coeFn_mk]
  rw [Fin.sum_univ_seven]
  simp only [add_assoc]

variable (m : (ℓ : Loc nD τ sig) → Buf (Elt Ideal) ℓ) (ρ : Dev nD → PrngReg)

/-- The kernel's result: the sum of the eight devices' partial results on the device's own slot. -/
theorem outAt_apply (c : Dev nD) (bl : Fin 2) (t : Fin 128) (e : Fin 512) :
    outAt m ρ c (ix3 bl t e) = ∑ p : Dev nD, slotZ m ρ p c (ix2 (slotRow bl t) e) := by
  rw [sum_devices _ c]
  unfold outAt recvd
  simp only [addVal_apply, accVal_apply]

/-! ## The device's blocks of the whole arrays -/

variable {X : AX} {Wq : AWq} {K V : AKv} {Wo : AWo}

/-- One device's partial result, when its blocks are those of the whole arrays. -/
theorem slotZ_apply (hx : ∀ c, xAt m ρ c = Layout.block ⟨3, ![2, 128, 512]⟩ ⟨3, ![16, 128, 512]⟩ 0 8 c X)
    (hq : ∀ c, wqAt m ρ c = Layout.block ⟨2, ![512, 512]⟩ ⟨2, ![512, 4096]⟩ 1 8 c Wq) (hk : ∀ c, kArr m c = K) (hv : ∀ c, vArr m c = V)
    (ho : ∀ c, woAt m ρ c = Layout.block ⟨2, ![512, 512]⟩ ⟨2, ![4096, 512]⟩ 0 8 c Wo)
    (p c : Dev nD) (bl : Fin 2) (t : Fin 128) (e : Fin 512) :
    slotZ m ρ p c (ix2 (slotRow bl t) e) = part X Wq K V Wo p (rowNo c bl) t e := by
  have hb : ∀ bl : Fin 2, rowAt m ρ p c bl = (fun bl => rowAt m ρ p c bl) bl := fun _ => rfl
  unfold slotZ
  rw [outVal_apply (woAt m ρ p) (fun bl => rowAt m ρ p c bl) bl t e]
  unfold part
  refine Finset.sum_congr rfl fun g _ => ?_
  have hw : woAt m ρ p (ix2 g e) = Wo (ix2 ⟨512 * p.val + g.val, by have : p.val < 8 := p.isLt; omega⟩ e) := by
    rw [ho, Layout.block_apply]
    congr 1
    funext a
    apply Fin.ext
    match a with
    | ⟨0, _⟩ => show p.val * 512 + g.val = 512 * p.val + g.val; ring
    | ⟨1, _⟩ => rfl
  rw [hw]
  congr 1
  unfold rowAt
  rw [rowVal_apply, headVal_apply]
  have hs : ∀ j : Fin 128, (∑ u : Fin 64, qVal (wqAt m ρ p) (xAt m ρ c) (ix2 (slotRow bl t) ⟨64 * (g.val / 64) + u.val, by omega⟩)
      * kvRow (kArr m p) p ⟨g.val / 64, by omega⟩ (rowNo c bl) (ix3 0 j u))
      = score X Wq K (rowNo c bl) ⟨8 * p.val + g.val / 64, by have : p.val < 8 := p.isLt; omega⟩ t j := fun j => by
    unfold score
    refine Finset.sum_congr rfl fun u _ => ?_
    rw [qVal_apply, hk]
    unfold query
    congr 2
    refine Finset.sum_congr rfl fun i _ => ?_
    rw [hx, hq, Layout.block_apply, Layout.block_apply]
    congr 2
    · funext a
      apply Fin.ext
      match a with
      | ⟨0, _⟩ => show c.val * 2 + bl.val = 2 * c.val + bl.val; ring
      | ⟨1, _⟩ => rfl
      | ⟨2, _⟩ => rfl
    · funext a
      apply Fin.ext
      match a with
      | ⟨0, _⟩ => rfl
      | ⟨1, _⟩ => show p.val * 512 + (64 * (g.val / 64) + u.val) = 64 * (8 * p.val + g.val / 64) + u.val; ring
  unfold att
  simp only [hs, hv]
  rfl

/-- The kernel's result on a device, as the formula's. -/
theorem outAt_res (hx : ∀ c, xAt m ρ c = Layout.block ⟨3, ![2, 128, 512]⟩ ⟨3, ![16, 128, 512]⟩ 0 8 c X)
    (hq : ∀ c, wqAt m ρ c = Layout.block ⟨2, ![512, 512]⟩ ⟨2, ![512, 4096]⟩ 1 8 c Wq) (hk : ∀ c, kArr m c = K) (hv : ∀ c, vArr m c = V)
    (ho : ∀ c, woAt m ρ c = Layout.block ⟨2, ![512, 512]⟩ ⟨2, ![4096, 512]⟩ 0 8 c Wo)
    (c : Dev nD) (bl : Fin 2) (t : Fin 128) (e : Fin 512) :
    outAt m ρ c (ix3 bl t e) = res X Wq K V Wo (rowNo c bl) t e := by
  rw [outAt_apply]
  exact Finset.sum_congr rfl fun p _ => slotZ_apply m ρ hx hq hk hv ho p c bl t e

end Cert.KernelIdeal.My

end
-- ==== Proof.Val.Reference.lean ====
/- The reference's stages read entry by entry over the extended reals, and its result as the formula of the
   specification when the input, the query weights and the keys are real. -/
module

public import proofs.«01_k».proof.Proof.Gen.ReferenceIdeal.Read
public import proofs.«01_k».proof.Proof.Val.Spec
public import Idealize.ShloMosaic.Lib.KernelVsHost
public import Mathlib.Tactic.Ring

@[expose] public section

noncomputable section

namespace Cert.ReferenceIdeal.My

open Cert.ReferenceIdeal Cert.ReferenceIdeal.Gen Cert.ReferenceIdeal.Read Cert.Val
open Idealize.ShloMosaic Idealize.ShloMosaic.ValueIdx
open scoped BigOperators

variable (X : AX) (Wq : AWq) (K V : AKv) (Wo : AWo)

/-- The queries. -/
theorem queries_apply (b : Fin 16) (t : Fin 128) (g : Fin 4096) :
    val_main_v2 (F := Ideal) X Wq (ix3 b t g) = query X Wq b t g := by
  rw [val_main_v2_apply]
  unfold query
  refine Finset.sum_congr rfl fun c _ => ?_
  rw [val_main_v0_apply, val_main_v1_apply]
  show X _ * Wq _ = _
  congr 2
  · funext a; match a with | ⟨0, _⟩ => rfl | ⟨1, _⟩ => rfl | ⟨2, _⟩ => rfl
  · funext a; match a with | ⟨0, _⟩ => rfl | ⟨1, _⟩ => rfl

/-- The queries split into heads. -/
theorem heads_apply (b : Fin 16) (t : Fin 128) (h d : Fin 64) :
    val_main_v3 (F := Ideal) X Wq (ix4 b t h d) = query X Wq b t (col h d) := by
  rw [val_main_v3_apply, ← queries_apply]
  congr 1
  funext a
  apply Fin.ext
  match a with
  | ⟨0, _⟩ => show (((b.val * 128 + t.val) * 64 + h.val) * 64 + d.val) / 524288 = b.val; omega
  | ⟨1, _⟩ => show (((b.val * 128 + t.val) * 64 + h.val) * 64 + d.val) / 4096 % 128 = t.val; omega
  | ⟨2, _⟩ => show (((b.val * 128 + t.val) * 64 + h.val) * 64 + d.val) % 4096 = 64 * h.val + d.val; omega

/-- The scaled scores. -/
theorem scores_apply (b : Fin 16) (h : Fin 64) (t k : Fin 128) :
    val_main_v6 (F := Ideal) X Wq K (ix4 b h t k) = (∑ d : Fin 64, query X Wq b t (col h d) * K (ix4 b k h d)) * eighth := by
  rw [val_main_v6_apply, val_main_v4_apply, val_main_v5_apply, val_main_cst_apply]
  show (_ : EReal) * _ = _
  congr 1
  refine Finset.sum_congr rfl fun d _ => ?_
  rw [← heads_apply]
  congr 2
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem reduces_keys : S16x64x128x128.Reduces [3] S16x64x128 := by decide

/-- The largest score of a row of real scores is real. -/
theorem max_real (s : Fin 128 → ℝ) (b : Fin 16) (h : Fin 64) (t : Fin 128)
    (hs : ∀ k, val_main_v6 (F := Ideal) X Wq K (ix4 b h t k) = (s k : EReal)) :
    ∃ M : ℝ, val_main_v7 (F := Ideal) X Wq K (ix3 b h t) = (M : EReal) := by
  have e0 := congrFun (hostReduce_maximumf_eq_multiReduction (F := Ideal) (φ := .f32) (val_main_v6 (F := Ideal) X Wq K) 0xFF800000#32
    reducesTo_S16x64x128x128_S16x64x128_d3 h_S_ reduces_keys (.inl rfl) rfl) (ix3 b h t)
  have e := Ideal.multiReduction_maximumf_single (val_main_v6 (F := Ideal) X Wq K) 0xFF800000#32 reduces_keys (.inl rfl) rfl (ix3 b h t)
  have hb : (FloatOps.ofBits .f32 0xFF800000#32 : Ideal .f32) = (⊥ : EReal) := by
    show Ideal.ofBits .f32 0xFF800000#32 = ⊥
    simp [Ideal.ofBits, Ideal.ieee]
  rw [hb] at e
  obtain ⟨M, hM⟩ := fold_max_real (n := 128) (by decide) (val_main_v6 (F := Ideal) X Wq K ∘ reduces_keys.lift (ix3 b h t)) (fun k => ⟨s k, by
    rw [← hs k]
    refine congrArg (val_main_v6 (F := Ideal) X Wq K) ?_
    funext a
    match a with | ⟨0, _⟩ => rfl | ⟨1, _⟩ => rfl | ⟨2, _⟩ => rfl | ⟨3, _⟩ => rfl⟩)
  exact ⟨M, e0.trans (e.trans hM)⟩

/-- The exponentials of the scores less the row's largest. -/
theorem exps_apply (b : Fin 16) (h : Fin 64) (t k : Fin 128) :
    val_main_v11 (F := Ideal) X Wq K (ix4 b h t k)
      = Ideal.exp (val_main_v6 (F := Ideal) X Wq K (ix4 b h t k) - val_main_v7 (F := Ideal) X Wq K (ix3 b h t)) := by
  rw [val_main_v11_apply, val_main_v10_apply, val_main_v9_apply, val_main_v8_apply]
  show Ideal.exp (_ - val_main_v7 (F := Ideal) X Wq K _) = _
  congr 3
  funext a
  match a with | ⟨0, _⟩ => rfl | ⟨1, _⟩ => rfl | ⟨2, _⟩ => rfl

/-- The weighted values. -/
theorem weighted_apply (b : Fin 16) (h : Fin 64) (t : Fin 128) (d : Fin 64) :
    val_main_v15 (F := Ideal) X Wq K V (ix4 b t h d) = ∑ k : Fin 128, V (ix4 b k h d) * val_main_v11 (F := Ideal) X Wq K (ix4 b h t k) := by
  rw [val_main_v15_apply, val_main_v14_apply]
  refine Finset.sum_congr rfl fun k _ => ?_
  congr 2
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The row sums of the exponentials. -/
theorem sums_apply (b : Fin 16) (h : Fin 64) (t : Fin 128) (d : Fin 64) :
    val_main_v17 (F := Ideal) X Wq K (ix4 b t h d) = 0 + ∑ k : Fin 128, val_main_v11 (F := Ideal) X Wq K (ix4 b h t k) := by
  rw [val_main_v17_apply, val_main_v16_apply, val_main_v13_apply, val_main_v12_apply, val_main_cst_1_apply]
  have h0 : (FloatOps.ofBits .f32 0x00000000#32 : Ideal .f32) = (0 : EReal) := Ideal.ofBits_zero_f32
  rw [h0]
  congr 1
  refine Finset.sum_congr rfl fun k _ => ?_
  congr 1
  funext a; match a with | ⟨0, _⟩ => rfl | ⟨1, _⟩ => rfl | ⟨2, _⟩ => rfl | ⟨3, _⟩ => rfl

variable {X Wq K}

/-- One head's attention: the shift by the row's largest score cancels. -/
theorem att_apply (hX : ∀ i, ∃ r : ℝ, X i = r) (hW : ∀ i, ∃ r : ℝ, Wq i = r) (hK : ∀ i, ∃ r : ℝ, K i = r)
    (b : Fin 16) (h : Fin 64) (t : Fin 128) (d : Fin 64) :
    val_main_v18 (F := Ideal) X Wq K V (ix4 b t h d) = att X Wq K V b h t d := by
  choose s hs1 hs2 using score_real hX hW hK b h t
  have hs : ∀ k, val_main_v6 (F := Ideal) X Wq K (ix4 b h t k) = (s k : EReal) := fun k => (scores_apply X Wq K b h t k).trans (hs2 k)
  obtain ⟨M, hM⟩ := max_real X Wq K s b h t hs
  rw [val_main_v18_apply, weighted_apply, sums_apply]
  simp only [exps_apply, hs, hM]
  unfold att
  simp only [hs1]
  exact softmax_shift (by decide) s M fun k => V (ix4 b k h d)

/-- The reference's result, as the formula's. -/
theorem result_apply (hX : ∀ i, ∃ r : ℝ, X i = r) (hW : ∀ i, ∃ r : ℝ, Wq i = r) (hK : ∀ i, ∃ r : ℝ, K i = r)
    (b : Fin 16) (t : Fin 128) (e : Fin 512) :
    val_main_v21 (F := Ideal) X Wq K V Wo (ix3 b t e) = res X Wq K V Wo b t e := by
  rw [val_main_v21_apply]
  refine (Equiv.sum_comp (finProdFinEquiv (m := 8) (n := 512)) _).symm.trans ?_
  rw [Fintype.sum_prod_type]
  unfold res part
  refine Finset.sum_congr rfl fun p _ => Finset.sum_congr rfl fun g _ => ?_
  rw [val_main_v19_apply, val_main_v20_apply, ← att_apply V hX hW hK]
  show (_ : EReal) * Wo _ = _
  congr 2
  · funext a
    apply Fin.ext
    match a with
    | ⟨0, _⟩ => show ((b.val * 128 + t.val) * 4096 + (g.val + 512 * p.val)) / 524288 = b.val; omega
    | ⟨1, _⟩ => show ((b.val * 128 + t.val) * 4096 + (g.val + 512 * p.val)) / 4096 % 128 = t.val; omega
    | ⟨2, _⟩ => show ((b.val * 128 + t.val) * 4096 + (g.val + 512 * p.val)) / 64 % 64 = 8 * p.val + g.val / 64; omega
    | ⟨3, _⟩ => show ((b.val * 128 + t.val) * 4096 + (g.val + 512 * p.val)) % 64 = g.val % 64; omega
  · funext a
    apply Fin.ext
    match a with
    | ⟨0, _⟩ => show g.val + 512 * p.val = 512 * p.val + g.val; omega
    | ⟨1, _⟩ => rfl

end Cert.ReferenceIdeal.My

end
-- ==== Proof.lean ====
/- The certificate: the runs of the kernel, of its idealization and of the reference, joined into the claim. -/
module

public import proofs.«01_k».proof.Defs
public import proofs.«01_k».proof.Proof.K.Frame
public import proofs.«01_k».proof.Proof.KI.Frame
public import proofs.«01_k».proof.Proof.Gen.ReferenceIdeal.Run
public import proofs.«01_k».proof.Proof.Gen.ReferenceIdeal.Read
public import proofs.«01_k».proof.Proof.Val.Pre
public import proofs.«01_k».proof.Proof.Val.Kernel
public import proofs.«01_k».proof.Proof.Val.Reference
public import Idealize.ShloMosaic.Adequacy
public import Idealize.ShloMosaic.Init

@[expose] public section

noncomputable section

namespace Cert.Proof

open Idealize.ShloMosaic Idealize.ShloMosaic.ValueIdx Idealize.SL.Sem

/-- The kernel's run, the results dropped. -/
theorem frame_Kernel : Cert.quiescent_Kernel (hKernel := Cert.Kernel.Gen.facts) := fun m g _ =>
  (θ_run _ _ _).mono (fun _ h => ⟨fun c => (h.1 c).2, h.2⟩) (Cert.Kernel.My.ends (F := Bits) m g)
/-- The idealized kernel's run, the results dropped. -/
theorem frame_KernelIdeal : Cert.quiescent_KernelIdeal (hKernelIdeal := Cert.KernelIdeal.Gen.facts) := fun m g _ =>
  (θ_run _ _ _).mono (fun _ h => ⟨fun c => (h.1 c).2, h.2⟩) (Cert.KernelIdeal.My.ends (F := Ideal) m g)
/-- The reference's run, the results dropped: it has no counters. -/
theorem frame_ReferenceIdeal : Cert.quiescent_ReferenceIdeal (hReferenceIdeal := Cert.ReferenceIdeal.Gen.facts) := fun m g _ =>
  (θ_run _ _ _).mono (fun r h => ⟨fun c => (h c).2, funext fun x => (by
    obtain ⟨t, sm⟩ := x
    cases sm with
    | reg s => exact s.elim0
    | dma s => exact s.elim0)⟩) (Cert.ReferenceIdeal.Value.run (F := Ideal) m g)

/-- Every row of the whole input is a row of some device's block. -/
theorem input_cover (i : (⟨3, ![16, 128, 512]⟩ : Shape).Idx) (h : Layout.Tiles ⟨3, ![2, 128, 512]⟩ ⟨3, ![16, 128, 512]⟩ 0 8) :
    ∃ (c : Fin 8) (j : (⟨3, ![2, 128, 512]⟩ : Shape).Idx), h.idx c j = i := by
  have h0 : (i 0).val < 16 := (i 0).isLt
  refine ⟨⟨(i 0).val / 2, by omega⟩, ix3 ⟨(i 0).val % 2, by omega⟩ (i 1) (i 2), funext fun a => Fin.ext ?_⟩
  match a with
  | ⟨0, _⟩ => show (i 0).val / 2 * 2 + (i 0).val % 2 = (i 0).val; omega
  | ⟨1, _⟩ => rfl
  | ⟨2, _⟩ => rfl
/-- Every column of the whole query weights is a column of some device's block. -/
theorem weights_cover (i : (⟨2, ![512, 4096]⟩ : Shape).Idx) (h : Layout.Tiles ⟨2, ![512, 512]⟩ ⟨2, ![512, 4096]⟩ 1 8) :
    ∃ (c : Fin 8) (j : (⟨2, ![512, 512]⟩ : Shape).Idx), h.idx c j = i := by
  have h1 : (i 1).val < 4096 := (i 1).isLt
  refine ⟨⟨(i 1).val / 512, by omega⟩, ix2 (i 0) ⟨(i 1).val % 512, by omega⟩, funext fun a => Fin.ext ?_⟩
  match a with
  | ⟨0, _⟩ => rfl
  | ⟨1, _⟩ => show (i 1).val / 512 * 512 + (i 1).val % 512 = (i 1).val; omega

/-- The kernel's result on every device is its block of the reference's. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Val.kernelFacts) := by
  intro m g m' g' hpre hm
  have : Cert.Pre_finite_KernelIdeal.Facts := Cert.Val.kernelFacts
  have hfin := fun c => Cert.Val.finite_real _ _ _ _ _ (hpre c)
  have hX : ∀ i, ∃ r : ℝ, m' (((0 : Dev Cert.ReferenceIdeal.nD).tc : Thread Cert.ReferenceIdeal.nD Cert.ReferenceIdeal.τ).loc Cert.ReferenceIdeal.main_arg0) i = (r : EReal) := fun i => by
    obtain ⟨c, j, rfl⟩ := input_cover i (by decide)
    have := (hfin c).1 j
    rwa [(hm c).1] at this
  have hW : ∀ i, ∃ r : ℝ, m' (((0 : Dev Cert.ReferenceIdeal.nD).tc : Thread Cert.ReferenceIdeal.nD Cert.ReferenceIdeal.τ).loc Cert.ReferenceIdeal.main_arg1) i = (r : EReal) := fun i => by
    obtain ⟨c, j, rfl⟩ := weights_cover i (by decide)
    have := (hfin c).2.1 j
    rwa [(hm c).2.1] at this
  have hK : ∀ i, ∃ r : ℝ, m' (((0 : Dev Cert.ReferenceIdeal.nD).tc : Thread Cert.ReferenceIdeal.nD Cert.ReferenceIdeal.τ).loc Cert.ReferenceIdeal.main_arg2) i = (r : EReal) := fun i => by
    have := (hfin 0).2.2 i
    rwa [(hm 0).2.2.1] at this
  refine ⟨Cert.ReferenceIdeal.Read.val_main_v21 (F := Ideal) _ _ _ _ _,
    (θ_run _ _ _).mono (fun r h c => ⟨(h.1 c).1.trans ?_, (h.1 c).2⟩) (Cert.KernelIdeal.My.ends (F := Ideal) m g),
    (θ_run _ _ _).mono (fun r h => ⟨(h 0).1.trans (Cert.ReferenceIdeal.Read.val_main_v21_eq _ _ _ _ _), (h 0).2⟩) (Cert.ReferenceIdeal.Value.run (F := Ideal) m' g')⟩
  funext i
  obtain ⟨bl, t, e, rfl⟩ : ∃ (bl : Fin 2) (t : Fin 128) (e : Fin 512), i = ix3 bl t e := ⟨i 0, i 1, i 2, Cert.KernelIdeal.My.eq_ix3 i⟩
  refine (Cert.KernelIdeal.My.outAt_res m g (fun c => (Cert.KernelIdeal.My.xAt_eq m g c).trans (hm c).1) (fun c => (Cert.KernelIdeal.My.wqAt_eq m g c).trans (hm c).2.1)
    (fun c => (hm c).2.2.1) (fun c => (hm c).2.2.2.1) (fun c => (Cert.KernelIdeal.My.woAt_eq m g c).trans (hm c).2.2.2.2) c bl t e).trans ?_
  refine (Cert.ReferenceIdeal.My.result_apply _ _ hX hW hK (Cert.KernelIdeal.My.rowNo c bl) t e).symm.trans ?_
  refine congrArg (Cert.ReferenceIdeal.Read.val_main_v21 (F := Ideal) _ _ _ _ _) ?_
  funext a
  apply Fin.ext
  match a with
  | ⟨0, _⟩ => show 2 * c.val + bl.val = c.val * 2 + bl.val; omega
  | ⟨1, _⟩ => rfl
  | ⟨2, _⟩ => rfl

/-- Everything claimed. -/
theorem claim : Cert.Claim := ⟨Cert.Kernel.Gen.facts, Cert.KernelIdeal.Gen.facts, Cert.ReferenceIdeal.Gen.facts, Cert.Val.kernelFacts, Cert.Val.referenceFacts,
  frame_Kernel, frame_KernelIdeal, fun m g _ => frame_KernelIdeal m g trivial, frame_ReferenceIdeal, fun m g _ => frame_ReferenceIdeal m g trivial,
  trivial, algebraic⟩

end Cert.Proof

end
